-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x39F0F0F1#32 ((1 / 2176 : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S8x1536x2176 : Shape := ⟨3, ![8, 1536, 2176]⟩
abbrev S2176 : Shape := ⟨1, ![2176]⟩
abbrev S12640x2176 : Shape := ⟨2, ![12640, 2176]⟩
abbrev S12640 : Shape := ⟨1, ![12640]⟩
abbrev S_ : Shape := ⟨0, ![]⟩

class Facts : Prop where
  bcast_S_S2176 : S_.BroadcastsInDim S2176 (![] : Fin 0 → Fin S2176.rank)

variable [Facts]

def fn {F : FTy → Type} [FloatOps F] (main_arg0 : FVec F S8x1536x2176 .bf16) (main_arg1 : FVec F S2176 .f32) (main_arg2 : FVec F S12640x2176 .fp8e4m3) (main_arg3 : FVec F S12640 .f32) : IVec S2176 1 :=
  let main_v0 : FVec F S2176 .f32 := Host.absf main_arg1
  let main_cst : FVec F S_ .f32 := constant S_ .f32 0x7F7FFFFF#32
  let main_v1 : FVec F S2176 .f32 := broadcastInDim S2176 ![] bcast_S_S2176 main_cst
  let main_v2 : IVec S2176 1 := cmpf .ole main_v0 main_v1
  main_v2
-- ==== Kernel.lean ====
abbrev S8x1536x2176 : Shape := ⟨3, ![8, 1536, 2176]⟩
abbrev S2176 : Shape := ⟨1, ![2176]⟩
abbrev S12640x2176 : Shape := ⟨2, ![12640, 2176]⟩
abbrev S12640 : Shape := ⟨1, ![12640]⟩
abbrev S12288x2176 : Shape := ⟨2, ![12288, 2176]⟩
abbrev S1x2176 : Shape := ⟨2, ![1, 2176]⟩
abbrev S1x12640 : Shape := ⟨2, ![1, 12640]⟩
abbrev S12288x6144 : Shape := ⟨2, ![12288, 6144]⟩
abbrev S12288x128 : Shape := ⟨2, ![12288, 128]⟩
abbrev S12288x96 : Shape := ⟨2, ![12288, 96]⟩
abbrev S12288x1 : Shape := ⟨2, ![12288, 1]⟩
abbrev S384x2176 : Shape := ⟨2, ![384, 2176]⟩
abbrev S384x6144 : Shape := ⟨2, ![384, 6144]⟩
abbrev S384x128 : Shape := ⟨2, ![384, 128]⟩
abbrev S384x96 : Shape := ⟨2, ![384, 96]⟩
abbrev S384x1 : Shape := ⟨2, ![384, 1]⟩
abbrev S2x384x2176 : Shape := ⟨3, ![2, 384, 2176]⟩
abbrev S2x384x128 : Shape := ⟨3, ![2, 384, 128]⟩
abbrev S32x2176 : Shape := ⟨2, ![32, 2176]⟩
abbrev S32 : Shape := ⟨1, ![32]⟩
abbrev S32x1 : Shape := ⟨2, ![32, 1]⟩
abbrev S32x256 : Shape := ⟨2, ![32, 256]⟩
abbrev S1x32x2176 : Shape := ⟨3, ![1, 32, 2176]⟩
abbrev S32x128 : Shape := ⟨2, ![32, 128]⟩
abbrev S1x32x128 : Shape := ⟨3, ![1, 32, 128]⟩
abbrev S1x384x2176 : Shape := ⟨3, ![1, 384, 2176]⟩
abbrev S1x384x1 : Shape := ⟨3, ![1, 384, 1]⟩
abbrev S512x2176 : Shape := ⟨2, ![512, 2176]⟩
abbrev S384x512 : Shape := ⟨2, ![384, 512]⟩
abbrev S1x512 : Shape := ⟨2, ![1, 512]⟩
abbrev S352x2176 : Shape := ⟨2, ![352, 2176]⟩
abbrev S384x352 : Shape := ⟨2, ![384, 352]⟩
abbrev S1x352 : Shape := ⟨2, ![1, 352]⟩

abbrev nBuf : Space → Nat
  | .hbm => 14
  | .vmem => 22
  | .smem => 0
  | _ => 0

abbrev bufTy : (tb : Table) → Fin (tcTables nBuf tb) → BufTy
  | .hbm, ⟨0, _⟩ => ⟨S8x1536x2176, .bf16⟩
  | .hbm, ⟨1, _⟩ => ⟨S2176, .f32⟩
  | .hbm, ⟨2, _⟩ => ⟨S12640x2176, .fp8e4m3⟩
  | .hbm, ⟨3, _⟩ => ⟨S12640, .f32⟩
  | .hbm, ⟨4, _⟩ => ⟨S12288x2176, .bf16⟩
  | .hbm, ⟨5, _⟩ => ⟨S1x2176, .f32⟩
  | .hbm, ⟨6, _⟩ => ⟨S1x12640, .f32⟩
  | .hbm, ⟨7, _⟩ => ⟨S12288x6144, .bf16⟩
  | .hbm, ⟨8, _⟩ => ⟨S12288x6144, .bf16⟩
  | .hbm, ⟨9, _⟩ => ⟨S12288x128, .bf16⟩
  | .hbm, ⟨10, _⟩ => ⟨S12288x128, .bf16⟩
  | .hbm, ⟨11, _⟩ => ⟨S12288x96, .bf16⟩
  | .hbm, ⟨12, _⟩ => ⟨S12288x2176, .fp8e4m3⟩
  | .hbm, ⟨13, _⟩ => ⟨S12288x1, .f32⟩
  | .local _ .vmem, ⟨0, _⟩ => ⟨S384x2176, .bf16⟩
  | .local _ .vmem, ⟨1, _⟩ => ⟨S384x2176, .bf16⟩
  | .local _ .vmem, ⟨2, _⟩ => ⟨S384x2176, .bf16⟩
  | .local _ .vmem, ⟨3, _⟩ => ⟨S1x2176, .f32⟩
  | .local _ .vmem, ⟨4, _⟩ => ⟨S12640x2176, .fp8e4m3⟩
  | .local _ .vmem, ⟨5, _⟩ => ⟨S1x12640, .f32⟩
  | .local _ .vmem, ⟨6, _⟩ => ⟨S384x6144, .bf16⟩
  | .local _ .vmem, ⟨7, _⟩ => ⟨S384x6144, .bf16⟩
  | .local _ .vmem, ⟨8, _⟩ => ⟨S384x6144, .bf16⟩
  | .local _ .vmem, ⟨9, _⟩ => ⟨S384x6144, .bf16⟩
  | .local _ .vmem, ⟨10, _⟩ => ⟨S384x128, .bf16⟩
  | .local _ .vmem, ⟨11, _⟩ => ⟨S384x128, .bf16⟩
  | .local _ .vmem, ⟨12, _⟩ => ⟨S384x128, .bf16⟩
  | .local _ .vmem, ⟨13, _⟩ => ⟨S384x128, .bf16⟩
  | .local _ .vmem, ⟨14, _⟩ => ⟨S384x96, .bf16⟩
  | .local _ .vmem, ⟨15, _⟩ => ⟨S384x96, .bf16⟩
  | .local _ .vmem, ⟨16, _⟩ => ⟨S384x2176, .fp8e4m3⟩
  | .local _ .vmem, ⟨17, _⟩ => ⟨S384x2176, .fp8e4m3⟩
  | .local _ .vmem, ⟨18, _⟩ => ⟨S384x1, .f32⟩
  | .local _ .vmem, ⟨19, _⟩ => ⟨S384x1, .f32⟩
  | .local _ .vmem, ⟨20, _⟩ => ⟨S2x384x2176, .fp8e4m3⟩
  | .local _ .vmem, ⟨21, _⟩ => ⟨S2x384x128, .f32⟩
  | _, _ => ⟨S8x1536x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let v4 : Index := Scalar.indexCast v0
  let c0 : Index := 0#32
  let c0_1 : Index := 0#32
  ![v4.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v8 : Index := Scalar.indexCast v0
  let c0_4 : Index := 0#32
  let c0_5 : Index := 0#32
  ![v8.toNat, 0, 0]
def k0_off3 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v473 : Index := Scalar.indexCast v417
  let c0_280 : Index := 0#32
  let c0_281 : Index := 0#32
  ![v473.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v479 : Index := Scalar.indexCast v417
  let c0_282 : Index := 0#32
  let c0_283 : Index := 0#32
  ![v479.toNat, 0, 0]
def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v538 : Index := Scalar.indexCast v417
  let c32_304 : Index := 32#32
  let c0_305 : Index := 0#32
  ![v538.toNat, 32, 0]
def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v544 : Index := Scalar.indexCast v417
  let c32_306 : Index := 32#32
  let c0_307 : Index := 0#32
  ![v544.toNat, 32, 0]
def k0_off7 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v603 : Index := Scalar.indexCast v417
  let c64_328 : Index := 64#32
  let c0_329 : Index := 0#32
  ![v603.toNat, 64, 0]
def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v609 : Index := Scalar.indexCast v417
  let c64_330 : Index := 64#32
  let c0_331 : Index := 0#32
  ![v609.toNat, 64, 0]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v668 : Index := Scalar.indexCast v417
  let c96_352 : Index := 96#32
  let c0_353 : Index := 0#32
  ![v668.toNat, 96, 0]
def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v674 : Index := Scalar.indexCast v417
  let c96_354 : Index := 96#32
  let c0_355 : Index := 0#32
  ![v674.toNat, 96, 0]
def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v733 : Index := Scalar.indexCast v417
  let c128_376 : Index := 128#32
  let c0_377 : Index := 0#32
  ![v733.toNat, 128, 0]
def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v739 : Index := Scalar.indexCast v417
  let c128_378 : Index := 128#32
  let c0_379 : Index := 0#32
  ![v739.toNat, 128, 0]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v798 : Index := Scalar.indexCast v417
  let c160_400 : Index := 160#32
  let c0_401 : Index := 0#32
  ![v798.toNat, 160, 0]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v804 : Index := Scalar.indexCast v417
  let c160_402 : Index := 160#32
  let c0_403 : Index := 0#32
  ![v804.toNat, 160, 0]
def k0_off15 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v863 : Index := Scalar.indexCast v417
  let c192_424 : Index := 192#32
  let c0_425 : Index := 0#32
  ![v863.toNat, 192, 0]
def k0_off16 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v869 : Index := Scalar.indexCast v417
  let c192_426 : Index := 192#32
  let c0_427 : Index := 0#32
  ![v869.toNat, 192, 0]
def k0_off17 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v928 : Index := Scalar.indexCast v417
  let c224_448 : Index := 224#32
  let c0_449 : Index := 0#32
  ![v928.toNat, 224, 0]
def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v934 : Index := Scalar.indexCast v417
  let c224_450 : Index := 224#32
  let c0_451 : Index := 0#32
  ![v934.toNat, 224, 0]
def k0_off19 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v993 : Index := Scalar.indexCast v417
  let c256_472 : Index := 256#32
  let c0_473 : Index := 0#32
  ![v993.toNat, 256, 0]
def k0_off20 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v999 : Index := Scalar.indexCast v417
  let c256_474 : Index := 256#32
  let c0_475 : Index := 0#32
  ![v999.toNat, 256, 0]
def k0_off21 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v1058 : Index := Scalar.indexCast v417
  let c288_496 : Index := 288#32
  let c0_497 : Index := 0#32
  ![v1058.toNat, 288, 0]
def k0_off22 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v1064 : Index := Scalar.indexCast v417
  let c288_498 : Index := 288#32
  let c0_499 : Index := 0#32
  ![v1064.toNat, 288, 0]
def k0_off23 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v1123 : Index := Scalar.indexCast v417
  let c320_520 : Index := 320#32
  let c0_521 : Index := 0#32
  ![v1123.toNat, 320, 0]
def k0_off24 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v1129 : Index := Scalar.indexCast v417
  let c320_522 : Index := 320#32
  let c0_523 : Index := 0#32
  ![v1129.toNat, 320, 0]
def k0_off25 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v1188 : Index := Scalar.indexCast v417
  let c352_544 : Index := 352#32
  let c0_545 : Index := 0#32
  ![v1188.toNat, 352, 0]
def k0_off26 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v417 : BitVec 32 := Scalar.subi c1_i32 v0
  let v1194 : Index := Scalar.indexCast v417
  let c352_546 : Index := 352#32
  let c0_547 : Index := 0#32
  ![v1194.toNat, 352, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12640x2176 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2176 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 2176 : ℝ) : EReal)
  | _ => none
-- ==== ReferenceIdeal.lean ====
abbrev S8x1536x2176 : Shape := ⟨3, ![8, 1536, 2176]⟩
abbrev S2176 : Shape := ⟨1, ![2176]⟩
abbrev S12640x2176 : Shape := ⟨2, ![12640, 2176]⟩
abbrev S12640 : Shape := ⟨1, ![12640]⟩
abbrev S12288x2176 : Shape := ⟨2, ![12288, 2176]⟩
abbrev S1x2176 : Shape := ⟨2, ![1, 2176]⟩
abbrev S1x12640 : Shape := ⟨2, ![1, 12640]⟩
abbrev S12288x6144 : Shape := ⟨2, ![12288, 6144]⟩
abbrev S12288x128 : Shape := ⟨2, ![12288, 128]⟩
abbrev S12288x96 : Shape := ⟨2, ![12288, 96]⟩
abbrev S12288x1 : Shape := ⟨2, ![12288, 1]⟩
abbrev S12288 : Shape := ⟨1, ![12288]⟩
abbrev S6144x2176 : Shape := ⟨2, ![6144, 2176]⟩
abbrev S1x6144 : Shape := ⟨2, ![1, 6144]⟩
abbrev S352x2176 : Shape := ⟨2, ![352, 2176]⟩
abbrev S1x352 : Shape := ⟨2, ![1, 352]⟩
abbrev S12288x352 : Shape := ⟨2, ![12288, 352]⟩

abbrev nBuf : Space → Nat
  | .hbm => 14
  | .vmem => 11
  | .smem => 0
  | _ => 0

abbrev bufTy : (tb : Table) → Fin (tcTables nBuf tb) → BufTy
  | .hbm, ⟨0, _⟩ => ⟨S8x1536x2176, .bf16⟩
  | .hbm, ⟨1, _⟩ => ⟨S2176, .f32⟩
  | .hbm, ⟨2, _⟩ => ⟨S12640x2176, .fp8e4m3⟩
  | .hbm, ⟨3, _⟩ => ⟨S12640, .f32⟩
  | .hbm, ⟨4, _⟩ => ⟨S12288x2176, .bf16⟩
  | .hbm, ⟨5, _⟩ => ⟨S1x2176, .f32⟩
  | .hbm, ⟨6, _⟩ => ⟨S1x12640, .f32⟩
  | .hbm, ⟨7, _⟩ => ⟨S12288x6144, .bf16⟩
  | .hbm, ⟨8, _⟩ => ⟨S12288x6144, .bf16⟩
  | .hbm, ⟨9, _⟩ => ⟨S12288x128, .bf16⟩
  | .hbm, ⟨10, _⟩ => ⟨S12288x128, .bf16⟩
  | .hbm, ⟨11, _⟩ => ⟨S12288x96, .bf16⟩
  | .hbm, ⟨12, _⟩ => ⟨S12288x2176, .fp8e4m3⟩
  | .hbm, ⟨13, _⟩ => ⟨S12288x1, .f32⟩
  | .local _ .vmem, ⟨0, _⟩ => ⟨S12288x2176, .bf16⟩
  | .local _ .vmem, ⟨1, _⟩ => ⟨S1x2176, .f32⟩
  | .local _ .vmem, ⟨2, _⟩ => ⟨S12640x2176, .fp8e4m3⟩
  | .local _ .vmem, ⟨3, _⟩ => ⟨S1x12640, .f32⟩
  | .local _ .vmem, ⟨4, _⟩ => ⟨S12288x6144, .bf16⟩
  | .local _ .vmem, ⟨5, _⟩ => ⟨S12288x6144, .bf16⟩
  | .local _ .vmem, ⟨6, _⟩ => ⟨S12288x128, .bf16⟩
  | .local _ .vmem, ⟨7, _⟩ => ⟨S12288x128, .bf16⟩
  | .local _ .vmem, ⟨8, _⟩ => ⟨S12288x96, .bf16⟩
  | .local _ .vmem, ⟨9, _⟩ => ⟨S12288x2176, .fp8e4m3⟩
  | .local _ .vmem, ⟨10, _⟩ => ⟨S12288x1, .f32⟩
  | _, _ => ⟨S8x1536x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "log_2" => some ((Real.log 2 : ℝ) : EReal)
  | _ => none

abbrev grid0 : Pipeline.Grid := .none

abbrev stage0_0 : Fin 1 → Memref sig .tc .vmem S12288x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12640x2176 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x2176 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.WordsSetup.lean ====
/- What the two runs of the machine-word program's body share: the branch condition in closed form, the staging memrefs of
   each window at a point, the two scratch operands, and the frame claim from a run that names no output. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((hA c 3).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S384x2176 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x2176 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2176 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12640x2176 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x12640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x6144 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x6144 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x96 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S384x2176 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x384x2176 .fp8e4m3 := Memref.whole cc0_scratch0
abbrev scM0_1 : Memref sig .tc .vmem S2x384x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.WordsRunA.lean ====
/- The machine-word program's body run at the first point, its outputs and scratch left at some contents. -/
module

public import proofs.«01_k».proof.Proof.WordsSetup

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2456000 in
/-- The body's triple IN CASE A (`scf.if` 0 taken: points 0): on whole staging memrefs — the inputs' at their contents,
    the FORGOTTEN outputs' (5, 6, 7, 8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S384x2176 .bf16) (harg1 : arg1.IsWhole) (arg2 : Memref sig .tc .vmem S384x2176 .bf16) (harg2 : arg2.IsWhole) (arg3 : Memref sig .tc .vmem S1x2176 .f32) (harg3 : arg3.IsWhole) (arg4 : Memref sig .tc .vmem S12640x2176 .fp8e4m3) (harg4 : arg4.IsWhole) (arg5 : Memref sig .tc .vmem S1x12640 .f32) (harg5 : arg5.IsWhole) (arg6 : Memref sig .tc .vmem S384x6144 .bf16) (harg6 : arg6.IsWhole) (arg7 : Memref sig .tc .vmem S384x6144 .bf16) (harg7 : arg7.IsWhole) (arg8 : Memref sig .tc .vmem S384x128 .bf16) (harg8 : arg8.IsWhole) (arg9 : Memref sig .tc .vmem S384x128 .bf16) (harg9 : arg9.IsWhole) (arg10 : Memref sig .tc .vmem S384x96 .bf16) (harg10 : arg10.IsWhole) (arg11 : Memref sig .tc .vmem S384x2176 .fp8e4m3) (harg11 : arg11.IsWhole) (arg12 : Memref sig .tc .vmem S384x1 .f32) (harg12 : arg12.IsWhole) (arg13 : Memref sig .tc .vmem S2x384x2176 .fp8e4m3) (harg13 : arg13.IsWhole) (arg14 : Memref sig .tc .vmem S2x384x128 .f32) (harg14 : arg14.IsWhole) (hc0 : cond0_0 i)
    (x0 : Vec F S384x2176 .bf16) (x1 : Vec F S384x2176 .bf16) (x2 : Vec F S1x2176 .f32) (x3 : Vec F S12640x2176 .fp8e4m3) (x4 : Vec F S1x12640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_in_proj_eq_skeleton]; unfold cc0_in_proj_skel
    simp only [k0_part49_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

end Cert.Kernel.Gen

end
-- ==== Proof.WordsRunB.lean ====
/- The machine-word program's body run at the later points, its outputs and scratch left at some contents. -/
module

public import proofs.«01_k».proof.Proof.WordsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1776000 in
/-- The body's triple IN CASE B (`scf.if` 0 not taken: points 1, 2, … 31: 31 of 32): on whole staging memrefs — the inputs' at their contents,
    the FORGOTTEN outputs' (5, 6, 7, 8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S384x2176 .bf16) (harg1 : arg1.IsWhole) (arg2 : Memref sig .tc .vmem S384x2176 .bf16) (harg2 : arg2.IsWhole) (arg3 : Memref sig .tc .vmem S1x2176 .f32) (harg3 : arg3.IsWhole) (arg4 : Memref sig .tc .vmem S12640x2176 .fp8e4m3) (harg4 : arg4.IsWhole) (arg5 : Memref sig .tc .vmem S1x12640 .f32) (harg5 : arg5.IsWhole) (arg6 : Memref sig .tc .vmem S384x6144 .bf16) (harg6 : arg6.IsWhole) (arg7 : Memref sig .tc .vmem S384x6144 .bf16) (harg7 : arg7.IsWhole) (arg8 : Memref sig .tc .vmem S384x128 .bf16) (harg8 : arg8.IsWhole) (arg9 : Memref sig .tc .vmem S384x128 .bf16) (harg9 : arg9.IsWhole) (arg10 : Memref sig .tc .vmem S384x96 .bf16) (harg10 : arg10.IsWhole) (arg11 : Memref sig .tc .vmem S384x2176 .fp8e4m3) (harg11 : arg11.IsWhole) (arg12 : Memref sig .tc .vmem S384x1 .f32) (harg12 : arg12.IsWhole) (arg13 : Memref sig .tc .vmem S2x384x2176 .fp8e4m3) (harg13 : arg13.IsWhole) (arg14 : Memref sig .tc .vmem S2x384x128 .f32) (harg14 : arg14.IsWhole) (hc0 : ¬cond0_0 i)
    (x0 : Vec F S384x2176 .bf16) (x1 : Vec F S384x2176 .bf16) (x2 : Vec F S1x2176 .f32) (x3 : Vec F S12640x2176 .fp8e4m3) (x4 : Vec F S1x12640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_in_proj_eq_skeleton]; unfold cc0_in_proj_skel
    simp only [k0_part49_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

end Cert.Kernel.Gen

end
-- ==== Proof.WordsFrame.lean ====
/- The frame of the machine-word program: the proof data that names no output, the body obligation, the run. -/
module

public import proofs.«01_k».proof.Proof.WordsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9, 10, 11): nothing reads what the kernel leaves in them, so nothing
    of it is named (Lib/Pipeline/Dat.lean `Dat.toRForget`). -/
def forgets0 : Fin 12 → Bool := fun w => w.val == 5 || w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Setup.lean ====
/- What the two runs of the kernel's body share: the branch condition in closed form, the staging memrefs of each window
   at a point, the two scratch operands, and the invariant spelled with them. -/
module

public import proofs.«01_k».proof.Proof.Gen.KernelIdeal.Frame
public import proofs.«01_k».proof.Proof.Gen.KernelIdeal.Skeleton
public import Idealize.ShloMosaic.Lib.WordCmp
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- One staging buffer of output window 5, through which its contents are stated (`View.read_writes_of_cover`: the
    choice does not matter). -/
abbrev VO0_5 : View sig .tc .vmem S384x6144 .bf16 := (Memref.whole cc0_stg5_0 : Memref sig .tc .vmem S384x6144 .bf16).view
/-- One staging buffer of output window 6, through which its contents are stated (`View.read_writes_of_cover`: the
    choice does not matter). -/
abbrev VO0_6 : View sig .tc .vmem S384x6144 .bf16 := (Memref.whole cc0_stg6_0 : Memref sig .tc .vmem S384x6144 .bf16).view
/-- One staging buffer of output window 7, through which its contents are stated (`View.read_writes_of_cover`: the
    choice does not matter). -/
abbrev VO0_7 : View sig .tc .vmem S384x128 .bf16 := (Memref.whole cc0_stg7_0 : Memref sig .tc .vmem S384x128 .bf16).view
/-- One staging buffer of output window 8, through which its contents are stated (`View.read_writes_of_cover`: the
    choice does not matter). -/
abbrev VO0_8 : View sig .tc .vmem S384x128 .bf16 := (Memref.whole cc0_stg8_0 : Memref sig .tc .vmem S384x128 .bf16).view
/-- One staging buffer of output window 9, through which its contents are stated (`View.read_writes_of_cover`: the
    choice does not matter). -/
abbrev VO0_9 : View sig .tc .vmem S384x96 .bf16 := (Memref.whole cc0_stg9_0 : Memref sig .tc .vmem S384x96 .bf16).view
/-- One staging buffer of output window 10, through which its contents are stated (`View.read_writes_of_cover`: the
    choice does not matter). -/
abbrev VO0_10 : View sig .tc .vmem S384x2176 .fp8e4m3 := (Memref.whole cc0_stg10_0 : Memref sig .tc .vmem S384x2176 .fp8e4m3).view
/-- One staging buffer of output window 11, through which its contents are stated (`View.read_writes_of_cover`: the
    choice does not matter). -/
abbrev VO0_11 : View sig .tc .vmem S384x1 .f32 := (Memref.whole cc0_stg11_0 : Memref sig .tc .vmem S384x1 .f32).view
/-- Each window's current staging memref at point `t`, spelled as the pipeline passes it (`bodyAt0`), and its wholeness. -/
abbrev ms0_0 (t : Fin cfg0.N) : Memref sig .tc .vmem S384x2176 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x2176 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2176 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12640x2176 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x12640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x6144 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x6144 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x96 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S384x2176 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x384x2176 .fp8e4m3 := Memref.whole cc0_scratch0
abbrev scM0_1 : Memref sig .tc .vmem S2x384x128 .f32 := Memref.whole cc0_scratch1
/-- The scratch `arg13` the kernel carries between points, as a view: what it holds is stated through it. -/
abbrev VS0_0 : View sig .tc .vmem S2x384x2176 .fp8e4m3 := scM0_0.view
/-- The scratch `arg14` the kernel carries between points, as a view: what it holds is stated through it. -/
abbrev VS0_1 : View sig .tc .vmem S2x384x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Exponent.lean ====
/- The quantiser's exponent over the reals: the kernel finds it as the greatest float of a bare exponent field not above the
   row's quotient, the reference as the floor of a base-two logarithm. The two give one scale and one inverse scale. -/
module

public import Idealize.ShloMosaic.PureOps.Ideal
public import Idealize.ShloMosaic.PureOps.Reduce
public import Idealize.ShloMosaic.Lib.SortNet.Extract

@[expose] public section

noncomputable section

namespace Cert.Quant

open Idealize.ShloMosaic

/-- The float whose word is the exponent field `b` with every other bit zero. -/
def field (b : Nat) : EReal := Ideal.ofBits .f32 (BitVec.ofNat 32 (b * 2 ^ 23))

/-- The least normal float, as the reference names it. -/
def tiny : EReal := Ideal.ofBits .f32 0x00800000#32

/-- The reference's exponent: zero below the least normal float, else one more than the floor of the base-two logarithm. -/
def expo (x : EReal) : EReal :=
  if x < tiny then 0 else Ideal.liftRound Int.floor (Ideal.div (Ideal.log x) ((Real.log 2 : ℝ) : EReal)) + 1

/-- What lane `b` of the kernel's search holds: `b` where its float is not above `x`, else zero. -/
def laneWord (x : EReal) (b : Fin 256) : BitVec 32 :=
  if x < Ideal.ofBits .f32 (IntOp.shli .vector (BitVec.ofNat 32 b.val) 23#32) then 0#32 else BitVec.ofNat 32 b.val

/-- The kernel's search: the greatest field, of 256, whose float is not above `x`. -/
def lanes (x : EReal) : BitVec 32 :=
  (Finset.univ : Finset (Fin 256)).fold IntOp.maxsi 2147483648#32 (laneWord x)

/-- The kernel's exponent. -/
def kexp (x : EReal) : BitVec 32 := if lanes x = 0#32 then 0#32 else lanes x - 126#32

theorem shl_field (b : Nat) (hb : b < 256) :
    IntOp.shli .vector (BitVec.ofNat 32 b) 23#32 = BitVec.ofNat 32 (b * 2 ^ 23) := by
  apply BitVec.eq_of_toNat_eq
  simp [IntOp.shli, Nat.shiftLeft_eq, Nat.mod_eq_of_lt (show b < 4294967296 by omega)]

theorem field_zero : field 0 = 0 := by simp [field, Ideal.ofBits, Ideal.ieee]

theorem pow_split (n : Int) : (1 : ℝ) * ((2 ^ 23 + 0 : ℕ) : ℝ) * (2 : ℝ) ^ (n - (2 ^ (8 - 1) - 1) - (23 : ℕ)) = (2 : ℝ) ^ (n - 127) := by
  have h : (2 : ℝ) ^ (n - (2 ^ (8 - 1) - 1) - (23 : ℕ)) = (2 : ℝ) ^ (n - 127) / 2 ^ 23 := by
    have e : (n - (2 ^ (8 - 1) - 1) - (23 : ℕ) : Int) = (n - 127) - 23 := by push_cast; ring
    rw [e, zpow_sub₀ (two_ne_zero)]; norm_cast
  rw [h, one_mul, Nat.add_zero, Nat.cast_pow, Nat.cast_two]
  exact mul_div_cancel₀ _ (pow_ne_zero _ two_ne_zero)

theorem field_bits (b : Nat) (h2 : b ≤ 254) :
    ((BitVec.ofNat 32 (b * 2 ^ 23)).extractLsb' 23 8).toNat = b ∧ ((BitVec.ofNat 32 (b * 2 ^ 23)).extractLsb' 0 23).toNat = 0
      ∧ ((BitVec.ofNat 32 (b * 2 ^ 23)).extractLsb' (8 + 23) 1 == 1#1) = false := by
  have hN : (BitVec.ofNat 32 (b * 2 ^ 23)).toNat = b * 2 ^ 23 := by
    rw [BitVec.toNat_ofNat]; exact Nat.mod_eq_of_lt (by omega)
  have hp : 0 < 2 ^ 23 := Nat.two_pow_pos 23
  refine ⟨?_, ?_, ?_⟩
  · rw [BitVec.extractLsb'_toNat, hN, Nat.shiftRight_eq_div_pow, Nat.mul_div_cancel _ hp]
    exact Nat.mod_eq_of_lt (by omega)
  · rw [BitVec.extractLsb'_toNat, hN, Nat.shiftRight_zero]
    exact Nat.mul_mod_left b (2 ^ 23)
  · rw [beq_eq_false_iff_ne]; intro h
    have h' := congrArg BitVec.toNat h
    rw [BitVec.extractLsb'_toNat, hN, Nat.shiftRight_eq_div_pow, Nat.div_eq_of_lt (by omega)] at h'
    exact absurd h' (by decide)

theorem field_coe (b : Nat) (h1 : 1 ≤ b) (h2 : b ≤ 254) : field b = (((2 : ℝ) ^ ((b : Int) - 127) : ℝ) : EReal) := by
  obtain ⟨e1, e2, e3⟩ := field_bits b h2
  simp only [field, Ideal.ofBits, Ideal.ieee]
  rw [e1, e2, e3, if_neg (by omega), if_neg (by omega), if_neg Bool.false_ne_true]
  exact congrArg (fun r : ℝ => (r : EReal)) (pow_split b)

theorem field_top : field 255 = ⊤ := by simp [field, Ideal.ofBits, Ideal.ieee]

theorem tiny_eq : tiny = (((2 : ℝ) ^ (-126 : Int) : ℝ) : EReal) := by
  have := field_coe 1 (by norm_num) (by norm_num)
  simpa [field, tiny] using this

/-- The search finds `B` where `B`'s float is not above `x` and every later field's is. -/
theorem lanes_eq (x : EReal) (B : Nat) (hB : B < 256) (hle : ¬ x < field B) (hlt : ∀ b, B < b → b < 256 → x < field b) :
    lanes x = BitVec.ofNat 32 B := by
  obtain ⟨-, h2, h3⟩ := SortNet.fold_maxsi_spec (laneWord x) Finset.univ 2147483648#32
  have hval : ∀ b : Nat, b < 256 → (BitVec.ofNat 32 b).toInt = b := by
    intro b hb
    rw [BitVec.toInt_eq_toNat_of_lt] <;> simp <;> omega
  have key : ∀ b : Fin 256, (laneWord x b).toInt ≤ B := by
    intro b
    simp only [laneWord, shl_field b.val b.isLt]
    change (if x < field b.val then _ else _ : BitVec 32).toInt ≤ _
    by_cases hb : B < b.val
    · rw [if_pos (hlt b.val hb b.isLt)]; simp
    · split
      · simp
      · rw [hval _ b.isLt]; omega
  have hBv : laneWord x ⟨B, hB⟩ = BitVec.ofNat 32 B := by
    simp only [laneWord, shl_field B hB]
    exact if_neg hle
  have hge := h2 ⟨B, hB⟩ (Finset.mem_univ _)
  rw [hBv, hval B hB] at hge
  change (B : Int) ≤ (lanes x).toInt at hge
  change lanes x = 2147483648#32 ∨ ∃ i ∈ Finset.univ, lanes x = laneWord x i at h3
  apply BitVec.eq_of_toInt_eq
  rw [hval B hB]
  rcases h3 with h3 | ⟨i, -, h3⟩
  · rw [h3] at hge
    have : (2147483648#32 : BitVec 32).toInt = -2147483648 := by decide
    omega
  · have := key i
    rw [← h3] at this
    omega

theorem word_field (a : BitVec 32) (n : Nat) (ha : a = BitVec.ofNat 32 n) (hn : n < 256) :
    Ideal.ofBits .f32 (IntOp.shli .vector a 23#32) = field n := by
  subst ha; rw [shl_field n hn]; rfl

theorem exp2_int (n : Int) : Ideal.exp2 (((n : ℝ) : EReal)) = (((2 : ℝ) ^ n : ℝ) : EReal) := by
  change ((Real.rpow 2 (n : ℝ) : ℝ) : EReal) = _
  rw [Real.rpow_eq_pow, Real.rpow_intCast]

/-- What the two exponents are: `n` where the kernel's word is `n` biased and the reference's number is `n`. -/
theorem exponents (x : EReal) (h0 : 0 ≤ x) (h1 : x < (((2 : ℝ) ^ (126 : Int) : ℝ) : EReal)) :
    ∃ n : Int, -125 ≤ n ∧ n ≤ 126 ∧ kexp x = BitVec.ofInt 32 n ∧ expo x = ((n : ℝ) : EReal) := by
  induction x using EReal.rec with
  | bot => simp at h0
  | top => simp at h1
  | coe r =>
    have hr0 : 0 ≤ r := by exact_mod_cast h0
    have hr1 : r < (2 : ℝ) ^ (126 : Int) := by exact_mod_cast h1
    have h2 : (1 : ℝ) < 2 := by norm_num
    by_cases ht : r < (2 : ℝ) ^ (-126 : Int)
    · have hl : lanes (r : EReal) = BitVec.ofNat 32 0 := by
        refine lanes_eq _ 0 (by norm_num) (by rw [field_zero]; exact not_lt.mpr h0) ?_
        intro b hb hb'
        by_cases hb2 : b = 255
        · rw [hb2, field_top]; exact EReal.coe_lt_top r
        · rw [field_coe b hb (by omega)]
          have : (2 : ℝ) ^ (-126 : Int) ≤ (2 : ℝ) ^ ((b : Int) - 127) := zpow_le_zpow_right₀ h2.le (by omega)
          exact_mod_cast lt_of_lt_of_le ht this
      refine ⟨0, by norm_num, by norm_num, ?_, ?_⟩
      · simp [kexp, hl]
      · rw [expo, if_pos (by rw [tiny_eq]; exact_mod_cast ht)]; simp
    · have ht' : (2 : ℝ) ^ (-126 : Int) ≤ r := not_lt.mp ht
      have hpos : 0 < r := lt_of_lt_of_le (by positivity) ht'
      obtain ⟨n, hn1, hn2⟩ := exists_mem_Ico_zpow hpos h2
      have hlo : -126 ≤ n := by
        have := lt_of_le_of_lt ht' hn2
        have := (zpow_lt_zpow_iff_right₀ h2).mp this
        omega
      have hhi : n ≤ 125 := by
        have := lt_of_le_of_lt hn1 hr1
        have := (zpow_lt_zpow_iff_right₀ h2).mp this
        omega
      obtain ⟨B, hB⟩ : ∃ B : Nat, (B : Int) = n + 127 := ⟨(n + 127).toNat, by omega⟩
      have hl : lanes (r : EReal) = BitVec.ofNat 32 B := by
        refine lanes_eq _ B (by omega) ?_ ?_
        · rw [field_coe B (by omega) (by omega), hB, not_lt]
          simpa using hn1
        · intro b hb hb'
          by_cases hb2 : b = 255
          · rw [hb2, field_top]; exact EReal.coe_lt_top r
          · rw [field_coe b (by omega) (by omega)]
            have : (2 : ℝ) ^ (n + 1) ≤ (2 : ℝ) ^ ((b : Int) - 127) := zpow_le_zpow_right₀ h2.le (by omega)
            exact_mod_cast lt_of_lt_of_le hn2 this
      refine ⟨n + 1, by omega, by omega, ?_, ?_⟩
      · have hne : ¬ BitVec.ofNat 32 B = 0#32 := by
          intro h; have := congrArg BitVec.toNat h; simp at this; omega
        rw [kexp, hl, if_neg hne]
        have : n + 1 = (B : Int) - 126 := by omega
        rw [this, Int.sub_eq_add_neg, BitVec.ofInt_add, BitVec.sub_eq_add_neg, BitVec.ofInt_natCast]
        rfl
      · have hlog : ⌊Real.log r / Real.log 2⌋ = n := by
          have hl2 : 0 < Real.log 2 := Real.log_pos h2
          rw [Int.floor_eq_iff, le_div_iff₀ hl2, div_lt_iff₀ hl2]
          constructor
          · rw [← Real.log_zpow]; exact Real.log_le_log (by positivity) hn1
          · have : ((n : ℝ) + 1) = ((n + 1 : Int) : ℝ) := by push_cast; rfl
            rw [this, ← Real.log_zpow]; exact Real.log_lt_log hpos hn2
        rw [expo, if_neg (by rw [tiny_eq]; exact_mod_cast ht)]
        have hlg : Ideal.log (r : EReal) = ((Real.log r : ℝ) : EReal) := by
          change (if r ≤ 0 then (⊥ : EReal) else _) = _
          rw [if_neg (not_le.mpr hpos)]
        rw [hlg, Ideal.div_coe (Real.log_pos h2).ne', ← EReal.coe_mul, mul_one_div]
        change (((⌊Real.log r / Real.log 2⌋ : ℝ)) : EReal) + 1 = _
        rw [hlog]; push_cast; rfl

/-- The kernel's scale, a word built from the exponent, is the reference's power of two. -/
theorem scale_eq (x : EReal) (h0 : 0 ≤ x) (h1 : x < (((2 : ℝ) ^ (126 : Int) : ℝ) : EReal)) :
    Ideal.ofBits .f32 (IntOp.shli .vector (kexp x + 127#32) 23#32) = Ideal.exp2 (expo x) := by
  obtain ⟨n, hlo, hhi, hk, he⟩ := exponents x h0 h1
  have hw : kexp x + 127#32 = BitVec.ofNat 32 (n + 127).toNat := by
    rw [hk, show (127#32 : BitVec 32) = BitVec.ofInt 32 127 from rfl, ← BitVec.ofInt_add, ← BitVec.ofInt_natCast]
    congr 1; omega
  rw [word_field _ _ hw (by omega), field_coe _ (by omega) (by omega), he, exp2_int]
  congr 2; omega

/-- The kernel's inverse scale is the reference's negative power of two. -/
theorem inv_eq (x : EReal) (h0 : 0 ≤ x) (h1 : x < (((2 : ℝ) ^ (126 : Int) : ℝ) : EReal)) :
    Ideal.ofBits .f32 (IntOp.shli .vector (127#32 - kexp x) 23#32) = Ideal.exp2 (0 - expo x) := by
  obtain ⟨n, hlo, hhi, hk, he⟩ := exponents x h0 h1
  have hw : 127#32 - kexp x = BitVec.ofNat 32 (127 - n).toNat := by
    rw [hk, show (127#32 : BitVec 32) = BitVec.ofInt 32 127 from rfl, BitVec.sub_eq_add_neg, ← BitVec.ofInt_neg, ← BitVec.ofInt_add, ← BitVec.ofInt_natCast]
    congr 1; omega
  have hneg : (0 : EReal) - ((n : ℝ) : EReal) = (((-n : Int) : ℝ) : EReal) := by push_cast; simp
  rw [word_field _ _ hw (by omega), field_coe _ (by omega) (by omega), he, hneg, exp2_int]
  congr 2; omega

end Cert.Quant

end
-- ==== Proof.Row.lean ====
/- One row of the input over the extended reals: the norm, the quotient that fixes the scale, the codes and the scale, as the
   kernel computes them and as the reference states them. -/
module

public import proofs.«01_k».proof.Proof.Exponent

@[expose] public section

noncomputable section

namespace Cert.Quant

open Idealize.ShloMosaic

/-- The norm's mean square of a row. -/
def meanSq (u : Fin 2176 → EReal) : EReal := (∑ k, u k * u k) * ((1 / 2176 : ℝ) : EReal)

/-- The normalised row. -/
def norm (u nw : Fin 2176 → EReal) (k : Fin 2176) : EReal :=
  u k * Ideal.rsqrt (meanSq u + Ideal.ofBits .f32 0x3727C5AC#32) * nw k

/-- The quotient that fixes the scale: the greatest magnitude of the normalised row by the f32 nearest 1/448. -/
def quot (u nw : Fin 2176 → EReal) : EReal :=
  (Finset.univ : Finset (Fin 2176)).fold max ⊥ (fun k => max (norm u nw k) (-norm u nw k)) * Ideal.ofBits .f32 0x3B124925#32

/-- A value clipped to the greatest fp8 magnitude. -/
def clip (x : EReal) : EReal := min (Ideal.ofBits .f32 0x43E00000#32) (max (Ideal.ofBits .f32 0xC3E00000#32) x)

/-- The codes of a row as the reference states them. -/
def code (u nw : Fin 2176 → EReal) (k : Fin 2176) : EReal := clip (norm u nw k * Ideal.exp2 (0 - expo (quot u nw)))

/-- The scale of a row as the reference states it. -/
def scale (u nw : Fin 2176 → EReal) : EReal := Ideal.exp2 (expo (quot u nw))

/-- The codes of a row as the kernel computes them. -/
def kcode (u nw : Fin 2176 → EReal) (k : Fin 2176) : EReal :=
  clip (norm u nw k * Ideal.ofBits .f32 (IntOp.shli .vector (127#32 - kexp (quot u nw)) 23#32))

/-- The scale of a row as the kernel computes it. -/
def kscale (u nw : Fin 2176 → EReal) : EReal := Ideal.ofBits .f32 (IntOp.shli .vector (kexp (quot u nw) + 127#32) 23#32)

/-- One element of a projection, from a row's codes and scale, a weight row and its scale. -/
def proj (q : Fin 2176 → EReal) (s : EReal) (w : Fin 2176 → EReal) (ws : EReal) : EReal := (∑ k, q k * w k) * s * ws

end Cert.Quant

end
-- ==== Proof.Blocks.lean ====
/- Which rows each window's block holds at a grid point, and the codes and scales of a block of rows. -/
module

public import proofs.«01_k».proof.Proof.Setup
public import proofs.«01_k».proof.Proof.Row
public import Idealize.ShloMosaic.Lib.Pipeline.ValueKit

@[expose] public section

noncomputable section

namespace Cert.KernelIdeal.Gen

open Idealize.ShloMosaic Idealize.ShloMosaic.TcCoe Idealize.ShloMosaic.Tactic Cert.Quant

variable (m : (ℓ : Loc nD τ sig) → Buf (Elt Ideal) ℓ) (c : Dev nD)

/-- A row of the input, its batch and position merged. -/
def uRow (r : Fin 12288) (j : Fin 2176) : EReal := V m c main_v0 (ix2 r j)

/-- The norm's weights. -/
def nwRow (j : Fin 2176) : EReal := V m c main_v1 (ix2 0 j)

/-- The array row of row `r` of block `n`; past the last block, of the last block. -/
def blockRow (n : ℕ) (r : Fin 384) : Fin 12288 := ⟨min n 31 * 384 + r.val, by have := r.isLt; omega⟩

/-- The codes of block `n`. -/
def codesAt (n : ℕ) (r : Fin 384) (k : Fin 2176) : EReal := kcode (uRow m c (blockRow n r)) (nwRow m c) k

/-- The scales of block `n`. -/
def scaleAt (n : ℕ) (r : Fin 384) : EReal := kscale (uRow m c (blockRow n r)) (nwRow m c)

/-- The block each input window stages at a point. -/
theorem idx_in : ∀ t : Fin cfg0.N, win0_0.index t = ![0, 0] ∧ win0_1.index t = ![min (t.val + 1) 31, 0]
    ∧ win0_2.index t = ![0, 0] ∧ win0_3.index t = ![0, 0] ∧ win0_4.index t = ![0, 0] := by decide +kernel

/-- The block each output window writes at a point. -/
theorem idx_out : ∀ t : Fin cfg0.N, win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] := by decide +kernel

theorem iblk0 (t : Fin cfg0.N) (r : Fin 384) (j : Fin 2176) :
    iblk m c 0 t (ix2 r j) = uRow m c (blockRow 0 r) j := by
  unfold uRow blockRow
  blk_ext [iblk, idx_in t]

theorem iblk1 (t : Fin cfg0.N) (r : Fin 384) (j : Fin 2176) :
    iblk m c 1 t (ix2 r j) = uRow m c (blockRow (t.val + 1) r) j := by
  unfold uRow blockRow
  blk_ext [iblk, idx_in t]

theorem iblk2 (t : Fin cfg0.N) (j : Fin 2176) : iblk m c 2 t (ix2 0 j) = nwRow m c j := by
  unfold nwRow
  blk_ext [iblk, idx_in t]

theorem iblk3 (t : Fin cfg0.N) (o : Fin 12640) (k : Fin 2176) : iblk m c 3 t (ix2 o k) = V m c main_arg2 (ix2 o k) := by
  blk_ext [iblk, idx_in t]

theorem iblk4 (t : Fin cfg0.N) (o : Fin 12640) : iblk m c 4 t (ix2 0 o) = V m c main_v2 (ix2 0 o) := by
  blk_ext [iblk, idx_in t]

end Cert.KernelIdeal.Gen

end
-- ==== Proof.RunA.lean ====
/- The kernel's body run once at the grid's first point, where it fills slot 0 of the scratch before it reads it. -/
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2456000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S384x2176 .bf16) (harg1 : arg1.IsWhole) (arg2 : Memref sig .tc .vmem S384x2176 .bf16) (harg2 : arg2.IsWhole) (arg3 : Memref sig .tc .vmem S1x2176 .f32) (harg3 : arg3.IsWhole) (arg4 : Memref sig .tc .vmem S12640x2176 .fp8e4m3) (harg4 : arg4.IsWhole) (arg5 : Memref sig .tc .vmem S1x12640 .f32) (harg5 : arg5.IsWhole) (arg6 : Memref sig .tc .vmem S384x6144 .bf16) (harg6 : arg6.IsWhole) (arg7 : Memref sig .tc .vmem S384x6144 .bf16) (harg7 : arg7.IsWhole) (arg8 : Memref sig .tc .vmem S384x128 .bf16) (harg8 : arg8.IsWhole) (arg9 : Memref sig .tc .vmem S384x128 .bf16) (harg9 : arg9.IsWhole) (arg10 : Memref sig .tc .vmem S384x96 .bf16) (harg10 : arg10.IsWhole) (arg11 : Memref sig .tc .vmem S384x2176 .fp8e4m3) (harg11 : arg11.IsWhole) (arg12 : Memref sig .tc .vmem S384x1 .f32) (harg12 : arg12.IsWhole) (arg13 : Memref sig .tc .vmem S2x384x2176 .fp8e4m3) (harg13 : arg13.IsWhole) (arg14 : Memref sig .tc .vmem S2x384x128 .f32) (harg14 : arg14.IsWhole) (hc0 : cond0_0 i)
    (x0 : Vec F S384x2176 .bf16) (x1 : Vec F S384x2176 .bf16) (x2 : Vec F S1x2176 .f32) (x3 : Vec F S12640x2176 .fp8e4m3) (x4 : Vec F S1x12640 .f32) (xs0 : Vec F S2x384x2176 .fp8e4m3) (xs1 : Vec F S2x384x128 .f32) :
    Σ' (L5 : List (View.Piece (Elt F) S384x6144 .bf16)), Σ' (L6 : List (View.Piece (Elt F) S384x6144 .bf16)), Σ' (L7 : List (View.Piece (Elt F) S384x128 .bf16)), Σ' (L8 : List (View.Piece (Elt F) S384x128 .bf16)), Σ' (L9 : List (View.Piece (Elt F) S384x96 .bf16)), Σ' (L10 : List (View.Piece (Elt F) S384x2176 .fp8e4m3)), Σ' (L11 : List (View.Piece (Elt F) S384x1 .f32)), Σ' (LS0 : List (View.Piece (Elt F) S2x384x2176 .fp8e4m3)), { LS1 : List (View.Piece (Elt F) S2x384x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, fun E K => ?run⟩
  case run =>
    simp only [cc0_in_proj_eq_skeleton]; unfold cc0_in_proj_skel
    simp only [k0_part49_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iexact HS1

end Cert.KernelIdeal.Gen

end
-- ==== Proof.Pays.lean ====
/- The kernel's stored values at an index, over the extended reals. -/
module

public import proofs.«01_k».proof.Proof.Row
public import proofs.«01_k».proof.Proof.Gen.KernelIdeal.Skeleton
public import Idealize.ShloMosaic.Lib.Pointwise

@[expose] public section

set_option maxRecDepth 16384

noncomputable section

namespace Cert.KernelIdeal.Gen

open Idealize.ShloMosaic Cert.Quant

theorem inv_d_eq : Named.named (F := Ideal) κ "inv_d" (φ := .f32) 0x39F0F0F1#32 = ((1 / 2176 : ℝ) : EReal) :=
  IdealRules.named_const.ideal_named_scalar _ _ _ _ rfl

theorem norm_apply (U : Vec Ideal S32x2176 .bf16) (W : Vec Ideal S1x2176 .f32) (r : Fin 32) (k : Fin 2176) :
    k0_pay3 U W (ix2 r k) = norm (fun j => U (ix2 r j)) (fun j => W (ix2 0 j)) k := by
  pointwise [k0_pay3]
  rw [inv_d_eq]; rfl

theorem exp_apply (U : Vec Ideal S32x2176 .bf16) (W : Vec Ideal S1x2176 .f32) (r : Fin 32) :
    k0_pay4 U W (ix2 r 0) = kexp (quot (fun j => U (ix2 r j)) (fun j => W (ix2 0 j))) := by
  pointwise [k0_pay4]
  have hb : Ideal.ofBits .f32 0xFF800000#32 = ⊥ := by simp [Ideal.ofBits, Ideal.ieee]
  simp only [norm_apply, hb]
  rw [show (fun x : Fin 256 => if (Finset.univ : Finset (Fin 2176)).fold max ⊥ (fun x => FloatOps.absf (F := Ideal) (φ := .f32)
      (norm (fun j => U (ix2 r j)) (fun j => W (ix2 0 j)) x)) * Ideal.ofBits .f32 991054117#32
        < Ideal.ofBits .f32 (IntOp.shli .vector (BitVec.ofNat 32 x.val) 23#32) then 0#32 else BitVec.ofNat 32 x.val)
    = laneWord (quot (fun j => U (ix2 r j)) (fun j => W (ix2 0 j))) from rfl]
  change Scalar.select (IntOp.cmpi .eq (lanes _) 0#32) 0#32 (IntOp.subi (lanes _) 126#32) = kexp _
  generalize quot _ _ = q
  unfold kexp
  by_cases h : lanes q = 0#32
  · rw [h]; rfl
  · have hf : (lanes q == 0#32) = false := beq_eq_false_iff_ne.mpr h
    rw [if_neg h]; simp [IntOp.cmpi, Scalar.select, IntOp.subi, hf]

theorem scale_apply (U : Vec Ideal S32x2176 .bf16) (W : Vec Ideal S1x2176 .f32) (r : Fin 32) (l : Fin 128) :
    k0_pay7 (k0_pay5 U W) (ix3 0 r l) = kscale (fun j => U (ix2 r j)) (fun j => W (ix2 0 j)) := by
  pointwise [k0_pay7, k0_pay5]
  rw [exp_apply]; rfl

theorem code_apply (U : Vec Ideal S32x2176 .bf16) (W : Vec Ideal S1x2176 .f32) (r : Fin 32) (k : Fin 2176) :
    k0_pay6 (k0_pay3 U W) (k0_pay4 U W) (ix3 0 r k) = kcode (fun j => U (ix2 r j)) (fun j => W (ix2 0 j)) k := by
  pointwise [k0_pay6]
  rw [exp_apply, norm_apply]; rfl

theorem chunk_apply (Q : Vec Ideal S1x384x2176 .fp8e4m3) (w : Vec Ideal S512x2176 .fp8e4m3) (s : Vec Ideal S1x384x1 .f32)
    (ws : Vec Ideal S1x512 .f32) (r : Fin 384) (n : Fin 512) :
    k0_pay83 Q w s ws (ix2 r n) = proj (fun k => Q (ix3 0 r k)) (s (ix3 0 r 0)) (fun k => w (ix2 n k)) (ws (ix2 0 n)) := by
  pointwise [k0_pay83]
  rfl

theorem tail_apply (Q : Vec Ideal S1x384x2176 .fp8e4m3) (w : Vec Ideal S352x2176 .fp8e4m3) (s : Vec Ideal S1x384x1 .f32)
    (ws : Vec Ideal S1x352 .f32) (r : Fin 384) (n : Fin 352) :
    k0_pay119 (k0_pay117 Q w s) (k0_pay118 ws) (ix2 r n)
      = proj (fun k => Q (ix3 0 r k)) (s (ix3 0 r 0)) (fun k => w (ix2 n k)) (ws (ix2 0 n)) := by
  pointwise [k0_pay119, k0_pay117, k0_pay118]
  rfl

end Cert.KernelIdeal.Gen

end
-- ==== Proof.Pieces.lean ====
/- One store of the kernel's body at a time: the value it writes, at the place of the buffer it writes it to. -/
module

public import proofs.«01_k».proof.Proof.Setup
public import proofs.«01_k».proof.Proof.Pays
public import Idealize.ShloMosaic.Lib.WholeRead

@[expose] public section

set_option maxRecDepth 16384

noncomputable section

namespace Cert.KernelIdeal.Gen

open Idealize.ShloMosaic Idealize.ShloMosaic.TcCoe Cert.Quant

/-- Column `o + j` of the projection of row `r`, from the row's codes `q r` and its scale `s r`. -/
def cols (o : ℕ) {n : ℕ} (ho : o + n ≤ 12640) (q : Fin 384 → Fin 2176 → EReal) (s : Fin 384 → EReal)
    (w : Vec Ideal S12640x2176 .fp8e4m3) (ws : Vec Ideal S1x12640 .f32) (r : Fin 384) (j : Fin n) : EReal :=
  proj (q r) (s r) (fun k => w (ix2 ⟨o + j.val, Nat.lt_of_lt_of_le (Nat.add_lt_add_left j.isLt o) ho⟩ k))
    (ws (ix2 0 ⟨o + j.val, Nat.lt_of_lt_of_le (Nat.add_lt_add_left j.isLt o) ho⟩))

section Loads

variable {arg4 : Memref sig .tc .vmem S12640x2176 .fp8e4m3} (harg4 : arg4.IsWhole)
  {arg5 : Memref sig .tc .vmem S1x12640 .f32} (harg5 : arg5.IsWhole)
  {arg3 : Memref sig .tc .vmem S1x2176 .f32} (harg3 : arg3.IsWhole)
  {arg1 : Memref sig .tc .vmem S384x2176 .bf16} (harg1 : arg1.IsWhole)

theorem weights_load (a n : ℕ) (h) (x3 : Vec Ideal S12640x2176 .fp8e4m3) (j : Fin n) (k : Fin 2176) (hb : a + j.val < 12640) :
    View.readAt (Elt Ideal) arg4.view (Rect.unit (s := S12640x2176) ![a, 0] ![n, 2176] h).toLoadRect (harg4.unread x3) (ix2 j k)
      = x3 (ix2 ⟨a + j.val, hb⟩ k) := by
  rw [harg4.readAt_unread]
  refine congrArg x3 (funext fun e => Fin.ext ?_)
  match e with
  | 0 => show a + 1 * j.val = a + j.val; omega
  | 1 => show 0 + 1 * k.val = k.val; omega

theorem wscale_load (a n : ℕ) (h) (x4 : Vec Ideal S1x12640 .f32) (j : Fin n) (hb : a + j.val < 12640) :
    View.readAt (Elt Ideal) arg5.view (Rect.unit (s := S1x12640) ![0, a] ![1, n] h).toLoadRect (harg5.unread x4) (ix2 0 j)
      = x4 (ix2 0 ⟨a + j.val, hb⟩) := by
  rw [harg5.readAt_unread]
  refine congrArg x4 (funext fun e => Fin.ext ?_)
  match e with
  | 0 => rfl
  | 1 => show a + 1 * j.val = a + j.val; omega

theorem norm_load (h) (x2 : Vec Ideal S1x2176 .f32) (j : Fin 2176) :
    View.readAt (Elt Ideal) arg3.view (Rect.unit (s := S1x2176) ![0, 0] ![1, 2176] h).toLoadRect (harg3.unread x2) (ix2 0 j)
      = x2 (ix2 0 j) := by
  rw [harg3.readAt_unread]
  refine congrArg x2 (funext fun e => Fin.ext ?_)
  match e with
  | 0 => rfl
  | 1 => show 0 + 1 * j.val = j.val; omega

theorem rows_load (a : ℕ) (h) (x1 : Vec Ideal S384x2176 .bf16) (r : Fin 32) (j : Fin 2176) (hb : a + r.val < 384) :
    View.readAt (Elt Ideal) arg1.view (Rect.unit (s := S384x2176) ![a, 0] ![32, 2176] h).toLoadRect (harg1.unread x1) (ix2 r j)
      = x1 (ix2 ⟨a + r.val, hb⟩ j) := by
  rw [harg1.readAt_unread]
  refine congrArg x1 (funext fun e => Fin.ext ?_)
  match e with
  | 0 => show a + 1 * r.val = a + r.val; omega
  | 1 => show 0 + 1 * j.val = j.val; omega

/-- One store of 512 columns of an output. -/
theorem chunk_piece (o a cc : ℕ) (ho : o + 6144 ≤ 12640) (ha : a = o + cc)
    (q : Fin 384 → Fin 2176 → EReal) (s : Fin 384 → EReal) (x3 : Vec Ideal S12640x2176 .fp8e4m3) (x4 : Vec Ideal S1x12640 .f32)
    (Q : Vec Ideal S1x384x2176 .fp8e4m3) (hQ : ∀ r k, Q (ix3 0 r k) = q r k)
    (Z : Vec Ideal S1x384x1 .f32) (hZ : ∀ r, Z (ix3 0 r 0) = s r) (h1) (h2)
    (h3 : ∀ e, ![0, cc] e + ![384, 512] e ≤ S384x6144.size e) (v : FVec Ideal S384x512 .bf16)
    (hv : v = k0_pay83 Q (View.readAt (Elt Ideal) arg4.view (Rect.unit (s := S12640x2176) ![a, 0] ![512, 2176] h1).toLoadRect (harg4.unread x3)) Z
      (View.readAt (Elt Ideal) arg5.view (Rect.unit (s := S1x12640) ![0, a] ![1, 512] h2).toLoadRect (harg5.unread x4)))
    (p : S384x512.Idx) :
    v p = cols o ho q s x3 x4 ((Rect.unit (s := S384x6144) ![0, cc] ![384, 512] h3).emb p 0)
      ((Rect.unit (s := S384x6144) ![0, cc] ![384, 512] h3).emb p 1) := by
  idx_vars p
  rename' p0 => r, p1 => j
  have hc : cc + 512 ≤ 6144 := h3 1
  have hb : a + j.val < 12640 := by have := j.isLt; omega
  have e0 : (Rect.unit (s := S384x6144) ![0, cc] ![384, 512] h3).emb (ix2 r j) 0 = r :=
    Fin.ext (show 0 + 1 * r.val = r.val by omega)
  have e1 : (Rect.unit (s := S384x6144) ![0, cc] ![384, 512] h3).emb (ix2 r j) 1 = (⟨cc + j.val, by have := j.isLt; omega⟩ : Fin 6144) :=
    Fin.ext (show cc + 1 * j.val = cc + j.val by omega)
  have key : ∀ (r' : Fin 384) (j' : Fin 6144), r' = r → j' = ⟨cc + j.val, by have := j.isLt; omega⟩ →
      proj (q r) (s r) (fun k => x3 (ix2 ⟨a + j.val, hb⟩ k)) (x4 (ix2 0 ⟨a + j.val, hb⟩)) = cols o ho q s x3 x4 r' j' := by
    rintro _ _ rfl rfl
    subst ha
    unfold cols
    simp only [Nat.add_assoc]
  rw [hv, chunk_apply, hZ, wscale_load harg5 a 512 h2 x4 j hb]
  simp only [hQ, weights_load harg4 a 512 h1 x3 j _ hb]
  exact key _ _ e0 e1

/-- The last 352 columns, before they are cut into the three narrow outputs. -/
theorem tail_value (q : Fin 384 → Fin 2176 → EReal) (s : Fin 384 → EReal) (x3 : Vec Ideal S12640x2176 .fp8e4m3) (x4 : Vec Ideal S1x12640 .f32)
    (Q : Vec Ideal S1x384x2176 .fp8e4m3) (hQ : ∀ r k, Q (ix3 0 r k) = q r k)
    (Z : Vec Ideal S1x384x1 .f32) (hZ : ∀ r, Z (ix3 0 r 0) = s r) (h1) (h2) (r : Fin 384) (j : Fin 352) :
    k0_pay119 (k0_pay117 Q (View.readAt (Elt Ideal) arg4.view (Rect.unit (s := S12640x2176) ![12288, 0] ![352, 2176] h1).toLoadRect (harg4.unread x3)) Z)
        (k0_pay118 (View.readAt (Elt Ideal) arg5.view (Rect.unit (s := S1x12640) ![0, 12288] ![1, 352] h2).toLoadRect (harg5.unread x4))) (ix2 r j)
      = cols 12288 (n := 352) (by decide) q s x3 x4 r j := by
  have hb : 12288 + j.val < 12640 := by have := j.isLt; omega
  rw [tail_apply, hZ, wscale_load harg5 12288 352 h2 x4 j hb]
  simp only [hQ, weights_load harg4 12288 352 h1 x3 j _ hb]
  rfl

theorem slice_b (A : FVec Ideal S384x352 .f32) (B : FVec Ideal S1x352 .f32) (r : Fin 384) (j : Fin 128) :
    k0_pay120 A B (ix2 r j) = k0_pay119 A B (ix2 r ⟨j.val, by have := j.isLt; omega⟩) := by
  refine congrArg (k0_pay119 A B) (funext fun e => Fin.ext ?_)
  match e with
  | 0 => show 0 + r.val = r.val; omega
  | 1 => show 0 + j.val = j.val; omega

theorem slice_c (A : FVec Ideal S384x352 .f32) (B : FVec Ideal S1x352 .f32) (r : Fin 384) (j : Fin 128) :
    k0_pay121 A B (ix2 r j) = k0_pay119 A B (ix2 r ⟨128 + j.val, by have := j.isLt; omega⟩) := by
  refine congrArg (k0_pay119 A B) (funext fun e => Fin.ext ?_)
  match e with
  | 0 => show 0 + r.val = r.val; omega
  | 1 => show 128 + j.val = 128 + j.val; omega

theorem slice_dt (A : FVec Ideal S384x352 .f32) (B : FVec Ideal S1x352 .f32) (r : Fin 384) (j : Fin 96) :
    k0_pay122 A B (ix2 r j) = k0_pay119 A B (ix2 r ⟨256 + j.val, by have := j.isLt; omega⟩) := by
  refine congrArg (k0_pay119 A B) (funext fun e => Fin.ext ?_)
  match e with
  | 0 => show 0 + r.val = r.val; omega
  | 1 => show 256 + j.val = 256 + j.val; omega

/-- One store of 32 rows of codes into a slot of the scratch. -/
theorem codes_piece (qq : Fin 2 → Fin 384 → Fin 2176 → EReal) (sl a : ℕ) (x1 : Vec Ideal S384x2176 .bf16) (x2 : Vec Ideal S1x2176 .f32)
    (hq : ∀ s r k, s.val = sl → qq s r k = kcode (fun j => x1 (ix2 r j)) (fun j => x2 (ix2 0 j)) k)
    (off : Fin 3 → ℕ) (hoff : off = ![sl, a, 0]) (h1) (h2)
    (h3 : ∀ e, off e + ![1, 32, 2176] e ≤ S2x384x2176.size e) (v : FVec Ideal S1x32x2176 .fp8e4m3)
    (hv : v = k0_pay6 (k0_pay3 (View.readAt (Elt Ideal) arg1.view (Rect.unit (s := S384x2176) ![a, 0] ![32, 2176] h1).toLoadRect (harg1.unread x1))
          (View.readAt (Elt Ideal) arg3.view (Rect.unit (s := S1x2176) ![0, 0] ![1, 2176] h2).toLoadRect (harg3.unread x2)))
        (k0_pay4 (View.readAt (Elt Ideal) arg1.view (Rect.unit (s := S384x2176) ![a, 0] ![32, 2176] h1).toLoadRect (harg1.unread x1))
          (View.readAt (Elt Ideal) arg3.view (Rect.unit (s := S1x2176) ![0, 0] ![1, 2176] h2).toLoadRect (harg3.unread x2))))
    (p : S1x32x2176.Idx) :
    v p = qq ((Rect.unit (s := S2x384x2176) off ![1, 32, 2176] h3).emb p 0)
      ((Rect.unit (s := S2x384x2176) off ![1, 32, 2176] h3).emb p 1) ((Rect.unit (s := S2x384x2176) off ![1, 32, 2176] h3).emb p 2) := by
  subst hoff
  idx_vars p
  obtain rfl : p0 = 0 := Subsingleton.elim _ _
  rename' p1 => r, p2 => k
  have hr : a + 32 ≤ 384 := h1 0
  have hb : a + r.val < 384 := by have := r.isLt; omega
  have e1 : (Rect.unit (s := S2x384x2176) ![sl, a, 0] ![1, 32, 2176] h3).emb (ix3 0 r k) 1 = ⟨a + r.val, hb⟩ :=
    Fin.ext (show a + 1 * r.val = a + r.val by omega)
  have e2 : (Rect.unit (s := S2x384x2176) ![sl, a, 0] ![1, 32, 2176] h3).emb (ix3 0 r k) 2 = k :=
    Fin.ext (show 0 + 1 * k.val = k.val by omega)
  have key : ∀ (r' : Fin 384) (k' : Fin 2176), r' = ⟨a + r.val, hb⟩ → k' = k →
      kcode (fun j => x1 (ix2 ⟨a + r.val, hb⟩ j)) (fun j => x2 (ix2 0 j)) k
        = kcode (fun j => x1 (ix2 r' j)) (fun j => x2 (ix2 0 j)) k' := by rintro _ _ rfl rfl; rfl
  rw [hv, code_apply]
  simp only [rows_load harg1 a h1 x1 r _ hb, norm_load harg3 h2 x2]
  exact (key _ _ e1 e2).trans (hq _ _ _ (show sl + 1 * 0 = sl by omega)).symm

/-- One store of 32 rows of scales, the same in every lane, into a slot of the scratch. -/
theorem scales_piece (ss : Fin 2 → Fin 384 → EReal) (sl a : ℕ) (x1 : Vec Ideal S384x2176 .bf16) (x2 : Vec Ideal S1x2176 .f32)
    (hs : ∀ s r, s.val = sl → ss s r = kscale (fun j => x1 (ix2 r j)) (fun j => x2 (ix2 0 j)))
    (off : Fin 3 → ℕ) (hoff : off = ![sl, a, 0]) (h1) (h2)
    (h3 : ∀ e, off e + ![1, 32, 128] e ≤ S2x384x128.size e) (v : FVec Ideal S1x32x128 .f32)
    (hv : v = k0_pay7 (k0_pay5 (View.readAt (Elt Ideal) arg1.view (Rect.unit (s := S384x2176) ![a, 0] ![32, 2176] h1).toLoadRect (harg1.unread x1))
          (View.readAt (Elt Ideal) arg3.view (Rect.unit (s := S1x2176) ![0, 0] ![1, 2176] h2).toLoadRect (harg3.unread x2))))
    (p : S1x32x128.Idx) :
    v p = ss ((Rect.unit (s := S2x384x128) off ![1, 32, 128] h3).emb p 0)
      ((Rect.unit (s := S2x384x128) off ![1, 32, 128] h3).emb p 1) := by
  subst hoff
  idx_vars p
  obtain rfl : p0 = 0 := Subsingleton.elim _ _
  rename' p1 => r, p2 => k
  have hr : a + 32 ≤ 384 := h1 0
  have hb : a + r.val < 384 := by have := r.isLt; omega
  have e1 : (Rect.unit (s := S2x384x128) ![sl, a, 0] ![1, 32, 128] h3).emb (ix3 0 r k) 1 = ⟨a + r.val, hb⟩ :=
    Fin.ext (show a + 1 * r.val = a + r.val by omega)
  have key : ∀ r' : Fin 384, r' = ⟨a + r.val, hb⟩ →
      kscale (fun j => x1 (ix2 ⟨a + r.val, hb⟩ j)) (fun j => x2 (ix2 0 j))
        = kscale (fun j => x1 (ix2 r' j)) (fun j => x2 (ix2 0 j)) := by rintro _ rfl; rfl
  rw [hv, scale_apply]
  simp only [rows_load harg1 a h1 x1 r _ hb, norm_load harg3 h2 x2]
  exact (key _ e1).trans (hs _ _ (show sl + 1 * 0 = sl by omega)).symm

end Loads

/-- Rows `a` to `a + 31` of a slot lie in the store made there. -/
theorem mem_rows {n : ℕ} (sl a : ℕ) (off : Fin 3 → ℕ) (hoff : off = ![sl, a, 0])
    (h3 : ∀ e, off e + ![1, 32, n] e ≤ (⟨3, ![2, 384, n]⟩ : Shape).size e) (y : (⟨3, ![2, 384, n]⟩ : Shape).Idx)
    (h0 : (y 0).val = sl) (h1 : a ≤ (y 1).val) (h2 : (y 1).val < a + 32) :
    y ∈ (Rect.unit (s := ⟨3, ![2, 384, n]⟩) off ![1, 32, n] h3).set := by
  subst hoff
  rw [Rect.mem_set_unit]
  intro e
  match e with
  | 0 => exact ⟨h0.ge, show (y 0).val < sl + 1 by omega⟩
  | 1 => exact ⟨h1, h2⟩
  | 2 => exact ⟨Nat.zero_le _, show (y 2).val < 0 + n by have : (y 2).val < n := (y 2).isLt; omega⟩

/-- One step of a descent through stores of 32 rows each. -/
theorem cover_step {P Q : Prop} {a t : ℕ} (h : t < a + 32) (hP : a ≤ t → t < a + 32 → P) (hQ : t < a → Q) : P ∨ Q :=
  (Nat.lt_or_ge t a).elim (fun h' => .inr (hQ h')) fun h' => .inl (hP h' h)

section Narrow

variable {arg4 : Memref sig .tc .vmem S12640x2176 .fp8e4m3} (harg4 : arg4.IsWhole)
  {arg5 : Memref sig .tc .vmem S1x12640 .f32} (harg5 : arg5.IsWhole)
  (q : Fin 384 → Fin 2176 → EReal) (s : Fin 384 → EReal) (x3 : Vec Ideal S12640x2176 .fp8e4m3) (x4 : Vec Ideal S1x12640 .f32)
  (Q : Vec Ideal S1x384x2176 .fp8e4m3) (hQ : ∀ r k, Q (ix3 0 r k) = q r k)
  (Z : Vec Ideal S1x384x1 .f32) (hZ : ∀ r, Z (ix3 0 r 0) = s r)

include hQ hZ in
/-- The store of the first 128 of the last columns. -/
theorem b_piece (h1) (h2) (h3 : ∀ e, ![0, 0] e + ![384, 128] e ≤ S384x128.size e) (v : FVec Ideal S384x128 .bf16)
    (hv : v = k0_pay120 (k0_pay117 Q (View.readAt (Elt Ideal) arg4.view (Rect.unit (s := S12640x2176) ![12288, 0] ![352, 2176] h1).toLoadRect (harg4.unread x3)) Z)
        (k0_pay118 (View.readAt (Elt Ideal) arg5.view (Rect.unit (s := S1x12640) ![0, 12288] ![1, 352] h2).toLoadRect (harg5.unread x4))))
    (p : S384x128.Idx) :
    v p = cols 12288 (n := 128) (by decide) q s x3 x4 ((Rect.unit (s := S384x128) ![0, 0] ![384, 128] h3).emb p 0)
      ((Rect.unit (s := S384x128) ![0, 0] ![384, 128] h3).emb p 1) := by
  idx_vars p
  rename' p0 => r, p1 => j
  have key : ∀ (r' : Fin 384) (j' : Fin 128), r' = r → j' = j →
      cols 12288 (n := 352) (by decide) q s x3 x4 r ⟨j.val, by have := j.isLt; omega⟩ = cols 12288 (n := 128) (by decide) q s x3 x4 r' j' := by
    rintro _ _ rfl rfl; rfl
  rw [hv, slice_b, tail_value harg4 harg5 q s x3 x4 Q hQ Z hZ]
  exact key _ _ (Fin.ext (show 0 + 1 * r.val = r.val by omega)) (Fin.ext (show 0 + 1 * j.val = j.val by omega))

include hQ hZ in
/-- The store of the next 128. -/
theorem c_piece (h1) (h2) (h3 : ∀ e, ![0, 0] e + ![384, 128] e ≤ S384x128.size e) (v : FVec Ideal S384x128 .bf16)
    (hv : v = k0_pay121 (k0_pay117 Q (View.readAt (Elt Ideal) arg4.view (Rect.unit (s := S12640x2176) ![12288, 0] ![352, 2176] h1).toLoadRect (harg4.unread x3)) Z)
        (k0_pay118 (View.readAt (Elt Ideal) arg5.view (Rect.unit (s := S1x12640) ![0, 12288] ![1, 352] h2).toLoadRect (harg5.unread x4))))
    (p : S384x128.Idx) :
    v p = cols 12416 (n := 128) (by decide) q s x3 x4 ((Rect.unit (s := S384x128) ![0, 0] ![384, 128] h3).emb p 0)
      ((Rect.unit (s := S384x128) ![0, 0] ![384, 128] h3).emb p 1) := by
  idx_vars p
  rename' p0 => r, p1 => j
  have key : ∀ (r' : Fin 384) (j' : Fin 128), r' = r → j' = j →
      cols 12288 (n := 352) (by decide) q s x3 x4 r ⟨128 + j.val, by have := j.isLt; omega⟩ = cols 12416 (n := 128) (by decide) q s x3 x4 r' j' := by
    rintro _ _ rfl rfl
    unfold cols
    simp only [← Nat.add_assoc, Nat.reduceAdd]
  rw [hv, slice_c, tail_value harg4 harg5 q s x3 x4 Q hQ Z hZ]
  exact key _ _ (Fin.ext (show 0 + 1 * r.val = r.val by omega)) (Fin.ext (show 0 + 1 * j.val = j.val by omega))

include hQ hZ in
/-- The store of the last 96. -/
theorem dt_piece (h1) (h2) (h3 : ∀ e, ![0, 0] e + ![384, 96] e ≤ S384x96.size e) (v : FVec Ideal S384x96 .bf16)
    (hv : v = k0_pay122 (k0_pay117 Q (View.readAt (Elt Ideal) arg4.view (Rect.unit (s := S12640x2176) ![12288, 0] ![352, 2176] h1).toLoadRect (harg4.unread x3)) Z)
        (k0_pay118 (View.readAt (Elt Ideal) arg5.view (Rect.unit (s := S1x12640) ![0, 12288] ![1, 352] h2).toLoadRect (harg5.unread x4))))
    (p : S384x96.Idx) :
    v p = cols 12544 (n := 96) (by decide) q s x3 x4 ((Rect.unit (s := S384x96) ![0, 0] ![384, 96] h3).emb p 0)
      ((Rect.unit (s := S384x96) ![0, 0] ![384, 96] h3).emb p 1) := by
  idx_vars p
  rename' p0 => r, p1 => j
  have key : ∀ (r' : Fin 384) (j' : Fin 96), r' = r → j' = j →
      cols 12288 (n := 352) (by decide) q s x3 x4 r ⟨256 + j.val, by have := j.isLt; omega⟩ = cols 12544 (n := 96) (by decide) q s x3 x4 r' j' := by
    rintro _ _ rfl rfl
    unfold cols
    simp only [← Nat.add_assoc, Nat.reduceAdd]
  rw [hv, slice_dt, tail_value harg4 harg5 q s x3 x4 Q hQ Z hZ]
  exact key _ _ (Fin.ext (show 0 + 1 * r.val = r.val by omega)) (Fin.ext (show 0 + 1 * j.val = j.val by omega))

include hQ in
/-- The store of the codes. -/
theorem q_piece (h3 : ∀ e, ![0, 0] e + ![384, 2176] e ≤ S384x2176.size e) (v : FVec Ideal S384x2176 .fp8e4m3)
    (hv : v = k0_pay81 Q) (p : S384x2176.Idx) :
    v p = q ((Rect.unit (s := S384x2176) ![0, 0] ![384, 2176] h3).emb p 0)
      ((Rect.unit (s := S384x2176) ![0, 0] ![384, 2176] h3).emb p 1) := by
  idx_vars p
  rename' p0 => r, p1 => j
  have key : ∀ (r' : Fin 384) (j' : Fin 2176), r' = r → j' = j → q r j = q r' j' := by rintro _ _ rfl rfl; rfl
  have hp : k0_pay81 Q (ix2 r j) = Q (ix3 0 r j) := by pointwise [k0_pay81]
  rw [hv, hp, hQ]
  exact key _ _ (Fin.ext (show 0 + 1 * r.val = r.val by omega)) (Fin.ext (show 0 + 1 * j.val = j.val by omega))

include hZ in
/-- The store of the scales. -/
theorem s_piece (h3 : ∀ e, ![0, 0] e + ![384, 1] e ≤ S384x1.size e) (v : FVec Ideal S384x1 .f32)
    (hv : v = k0_pay82 Z) (p : S384x1.Idx) :
    v p = s ((Rect.unit (s := S384x1) ![0, 0] ![384, 1] h3).emb p 0) := by
  idx_vars p
  obtain rfl : p1 = 0 := Subsingleton.elim _ _
  rename' p0 => r
  have key : ∀ (r' : Fin 384), r' = r → s r = s r' := by rintro _ rfl; rfl
  have hp : k0_pay82 Z (ix2 r 0) = Z (ix3 0 r 0) := by pointwise [k0_pay82]
  rw [hv, hp, hZ]
  exact key _ (Fin.ext (show 0 + 1 * r.val = r.val by omega))

end Narrow

section Slots

/-- A slot of the codes, loaded. -/
theorem slot_load {arg13 : Memref sig .tc .vmem S2x384x2176 .fp8e4m3} (f : BufTy.Contents (Elt Ideal) arg13.view.ty)
    (off : Fin 3 → ℕ) (sl : Fin 2) (hoff : off = ![sl.val, 0, 0]) (h) (r : Fin 384) (k : Fin 2176) :
    View.readAt (Elt Ideal) arg13.view (Rect.unit (s := S2x384x2176) off ![1, 384, 2176] h).toLoadRect f (ix3 0 r k)
      = arg13.view.read (Elt Ideal) f (ix3 sl r k) := by
  subst hoff
  refine congrArg (arg13.view.read (Elt Ideal) f) (funext fun e => Fin.ext ?_)
  match e with
  | 0 => show sl.val + 1 * 0 = sl.val; omega
  | 1 => show 0 + 1 * r.val = r.val; omega
  | 2 => show 0 + 1 * k.val = k.val; omega

/-- The first lane of a slot of the scales, loaded. -/
theorem slot_load_scale {arg14 : Memref sig .tc .vmem S2x384x128 .f32} (f : BufTy.Contents (Elt Ideal) arg14.view.ty)
    (off : Fin 3 → ℕ) (sl : Fin 2) (hoff : off = ![sl.val, 0, 0]) (h) (r : Fin 384) :
    View.readAt (Elt Ideal) arg14.view (Rect.unit (s := S2x384x128) off ![1, 384, 1] h).toLoadRect f (ix3 0 r 0)
      = arg14.view.read (Elt Ideal) f (ix3 sl r 0) := by
  subst hoff
  refine congrArg (arg14.view.read (Elt Ideal) f) (funext fun e => Fin.ext ?_)
  match e with
  | 0 => show sl.val + 1 * 0 = sl.val; omega
  | 1 => show 0 + 1 * r.val = r.val; omega
  | 2 => rfl

end Slots

end Cert.KernelIdeal.Gen

end
-- ==== Proof.ValuesA.lean ====
/- What the body leaves at the first point: both slots of the scratch filled, the first from its own block of rows and the
   second from the next, and the outputs from the first slot. -/
module

public import proofs.«01_k».proof.Proof.RunA
public import proofs.«01_k».proof.Proof.Pieces

@[expose] public section

set_option maxRecDepth 100000

noncomputable section

namespace Cert.KernelIdeal.Gen

open Idealize.ShloMosaic Idealize.ShloMosaic.TcCoe Idealize.ShloMosaic.Tactic Cert.Quant

variable (c : Dev nD) (i : grid0.Coords) (arg1 : Memref sig .tc .vmem S384x2176 .bf16) (harg1 : arg1.IsWhole) (arg2 : Memref sig .tc .vmem S384x2176 .bf16) (harg2 : arg2.IsWhole) (arg3 : Memref sig .tc .vmem S1x2176 .f32) (harg3 : arg3.IsWhole) (arg4 : Memref sig .tc .vmem S12640x2176 .fp8e4m3) (harg4 : arg4.IsWhole) (arg5 : Memref sig .tc .vmem S1x12640 .f32) (harg5 : arg5.IsWhole) (arg6 : Memref sig .tc .vmem S384x6144 .bf16) (harg6 : arg6.IsWhole) (arg7 : Memref sig .tc .vmem S384x6144 .bf16) (harg7 : arg7.IsWhole) (arg8 : Memref sig .tc .vmem S384x128 .bf16) (harg8 : arg8.IsWhole) (arg9 : Memref sig .tc .vmem S384x128 .bf16) (harg9 : arg9.IsWhole) (arg10 : Memref sig .tc .vmem S384x96 .bf16) (harg10 : arg10.IsWhole) (arg11 : Memref sig .tc .vmem S384x2176 .fp8e4m3) (harg11 : arg11.IsWhole) (arg12 : Memref sig .tc .vmem S384x1 .f32) (harg12 : arg12.IsWhole) (arg13 : Memref sig .tc .vmem S2x384x2176 .fp8e4m3) (harg13 : arg13.IsWhole) (arg14 : Memref sig .tc .vmem S2x384x128 .f32) (harg14 : arg14.IsWhole) (hc0 : cond0_0 i)
    (x0 : Vec Ideal S384x2176 .bf16) (x1 : Vec Ideal S384x2176 .bf16) (x2 : Vec Ideal S1x2176 .f32) (x3 : Vec Ideal S12640x2176 .fp8e4m3) (x4 : Vec Ideal S1x12640 .f32) (xs0 : Vec Ideal S2x384x2176 .fp8e4m3) (xs1 : Vec Ideal S2x384x128 .f32)

/-- Every store into the first slot, row by row the codes of the first block. -/
theorem codes_pieces_A0 (qq : Fin 2 → Fin 384 → Fin 2176 → EReal)
    (h0 : ∀ (s : Fin 2) r k, s.val = 0 → qq s r k = kcode (fun j => x0 (ix2 r j)) (fun j => x2 (ix2 0 j)) k) :
    ∀ p ∈ kernelRun0_A.sl.HS0_12 c arg1 harg1 arg3 harg3 x0 x2, ∀ x, p.2 x = qq (p.1.emb x 0) (p.1.emb x 1) (p.1.emb x 2) := by
  unfold kernelRun0_A.sl.HS0_12
  simp only [List.forall_mem_cons, List.not_mem_nil, false_imp_iff, implies_true, and_true]
  refine ⟨?_, ?_, ?_, ?_, ?_, ?_, ?_, ?_, ?_, ?_, ?_, ?_⟩
  all_goals exact fun x => codes_piece harg3 harg1 qq 0 _ x0 x2 h0 _ rfl _ _ _ _ rfl x

/-- Every store into either slot. -/
theorem codes_pieces_A (qq : Fin 2 → Fin 384 → Fin 2176 → EReal)
    (h0 : ∀ (s : Fin 2) r k, s.val = 0 → qq s r k = kcode (fun j => x0 (ix2 r j)) (fun j => x2 (ix2 0 j)) k)
    (h1 : ∀ (s : Fin 2) r k, s.val = 1 - (i 0).val % 2 → qq s r k = kcode (fun j => x1 (ix2 r j)) (fun j => x2 (ix2 0 j)) k) :
    ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.1, ∀ x, p.2 x = qq (p.1.emb x 0) (p.1.emb x 1) (p.1.emb x 2) := by
  unfold kernelRun0_A
  dsimp only
  unfold kernelRun0_A.sl.HS0_22 kernelRun0_A.sl.HS0_20 kernelRun0_A.sl.HS0_18 kernelRun0_A.sl.HS0_16 kernelRun0_A.sl.HS0_14
  simp only [List.forall_mem_cons]
  refine ⟨?_, ?_, ?_, ?_, ?_, ?_, ?_, ?_, ?_, ?_, ?_, ?_, codes_pieces_A0 c arg1 harg1 arg3 harg3 x0 x2 qq h0⟩
  all_goals exact fun x => codes_piece harg3 harg2 qq _ _ x1 x2 h1 _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ _ _ _ rfl x

/-- The stores into the first slot cover it. -/
theorem codes_cover_A0 (y : S2x384x2176.Idx) (h0 : (y 0).val = 0) : ∃ p ∈ kernelRun0_A.sl.HS0_12 c arg1 harg1 arg3 harg3 x0 x2, y ∈ p.1.set := by
  unfold kernelRun0_A.sl.HS0_12
  simp only [List.exists_mem_cons_iff]
  have ht : (y 1).val < 384 := (y 1).isLt
  iterate 12
    refine cover_step ht (fun h1 h2 => mem_rows 0 _ _ rfl _ y h0 h1 h2) ?_
    clear ht
    intro ht
  exact absurd ht (Nat.not_lt_zero _)

/-- The stores into the second slot cover it. -/
theorem codes_cover_A (y : S2x384x2176.Idx) (h0 : (y 0).val = 1 - (i 0).val % 2) : ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.1, y ∈ p.1.set := by
  unfold kernelRun0_A
  dsimp only
  unfold kernelRun0_A.sl.HS0_22 kernelRun0_A.sl.HS0_20 kernelRun0_A.sl.HS0_18 kernelRun0_A.sl.HS0_16 kernelRun0_A.sl.HS0_14
  simp only [List.exists_mem_cons_iff]
  have ht : (y 1).val < 384 := (y 1).isLt
  iterate 12
    refine cover_step ht (fun h1 h2 => mem_rows (1 - (i 0).val % 2) _ _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ y h0 h1 h2) ?_
    clear ht
    intro ht
  exact absurd ht (Nat.not_lt_zero _)

/-- The first slot, when the outputs read it. -/
theorem codes_first_A (r : Fin 384) (k : Fin 2176) :
    arg13.view.read (Elt Ideal) (arg13.view.writes (Elt Ideal) (harg13.unread xs0) (kernelRun0_A.sl.HS0_12 c arg1 harg1 arg3 harg3 x0 x2)) (ix3 0 r k)
      = kcode (fun j => x0 (ix2 r j)) (fun j => x2 (ix2 0 j)) k :=
  View.read_writes_apply_of_pieces _ _ (fun y => (fun _ r k => kcode (fun j => x0 (ix2 r j)) (fun j => x2 (ix2 0 j)) k : Fin 2 → Fin 384 → Fin 2176 → EReal) (y 0) (y 1) (y 2)) _
    (codes_pieces_A0 c arg1 harg1 arg3 harg3 x0 x2 _ (fun _ _ _ _ => rfl)) _ (codes_cover_A0 c arg1 harg1 arg3 harg3 x0 x2 (ix3 0 r k) rfl)

/-- The second slot, after the body. -/
theorem codes_slot_A (hi : (i 0).val = 0) (r : Fin 384) (k : Fin 2176) :
    arg13.view.read (Elt Ideal) (arg13.view.writes (Elt Ideal) (harg13.unread xs0) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.1) (ix3 1 r k)
      = kcode (fun j => x1 (ix2 r j)) (fun j => x2 (ix2 0 j)) k :=
  View.read_writes_apply_of_pieces _ _ (fun y => (fun s r k => if s.val = 0 then kcode (fun j => x0 (ix2 r j)) (fun j => x2 (ix2 0 j)) k else kcode (fun j => x1 (ix2 r j)) (fun j => x2 (ix2 0 j)) k : Fin 2 → Fin 384 → Fin 2176 → EReal) (y 0) (y 1) (y 2)) _
    (codes_pieces_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 _ (fun _ _ _ h => if_pos h) (fun _ _ _ h => if_neg (by rw [h, hi]; decide))) _
    (codes_cover_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 (ix3 1 r k) (by rw [hi]; rfl))

/-- Every store into the first slot, row by row the scales of the first block. -/
theorem scales_pieces_A0 (ss : Fin 2 → Fin 384 → EReal)
    (h0 : ∀ (s : Fin 2) r, s.val = 0 → ss s r = kscale (fun j => x0 (ix2 r j)) (fun j => x2 (ix2 0 j))) :
    ∀ p ∈ kernelRun0_A.sl.HS1_12 c arg1 harg1 arg3 harg3 x0 x2, ∀ x, p.2 x = ss (p.1.emb x 0) (p.1.emb x 1) := by
  unfold kernelRun0_A.sl.HS1_12
  simp only [List.forall_mem_cons, List.not_mem_nil, false_imp_iff, implies_true, and_true]
  refine ⟨?_, ?_, ?_, ?_, ?_, ?_, ?_, ?_, ?_, ?_, ?_, ?_⟩
  all_goals exact fun x => scales_piece harg3 harg1 ss 0 _ x0 x2 h0 _ rfl _ _ _ _ rfl x

/-- Every store into either slot. -/
theorem scales_pieces_A (ss : Fin 2 → Fin 384 → EReal)
    (h0 : ∀ (s : Fin 2) r, s.val = 0 → ss s r = kscale (fun j => x0 (ix2 r j)) (fun j => x2 (ix2 0 j)))
    (h1 : ∀ (s : Fin 2) r, s.val = 1 - (i 0).val % 2 → ss s r = kscale (fun j => x1 (ix2 r j)) (fun j => x2 (ix2 0 j))) :
    ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.2.1, ∀ x, p.2 x = ss (p.1.emb x 0) (p.1.emb x 1) := by
  unfold kernelRun0_A
  dsimp only
  unfold kernelRun0_A.sl.HS1_16 kernelRun0_A.sl.HS1_14
  simp only [List.forall_mem_cons]
  refine ⟨?_, ?_, ?_, ?_, ?_, ?_, ?_, ?_, ?_, ?_, ?_, ?_, scales_pieces_A0 c arg1 harg1 arg3 harg3 x0 x2 ss h0⟩
  all_goals exact fun x => scales_piece harg3 harg2 ss _ _ x1 x2 h1 _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ _ _ _ rfl x

/-- The stores into the first slot cover it. -/
theorem scales_cover_A0 (y : S2x384x128.Idx) (h0 : (y 0).val = 0) : ∃ p ∈ kernelRun0_A.sl.HS1_12 c arg1 harg1 arg3 harg3 x0 x2, y ∈ p.1.set := by
  unfold kernelRun0_A.sl.HS1_12
  simp only [List.exists_mem_cons_iff]
  have ht : (y 1).val < 384 := (y 1).isLt
  iterate 12
    refine cover_step ht (fun h1 h2 => mem_rows 0 _ _ rfl _ y h0 h1 h2) ?_
    clear ht
    intro ht
  exact absurd ht (Nat.not_lt_zero _)

/-- The stores into the second slot cover it. -/
theorem scales_cover_A (y : S2x384x128.Idx) (h0 : (y 0).val = 1 - (i 0).val % 2) : ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.2.1, y ∈ p.1.set := by
  unfold kernelRun0_A
  dsimp only
  unfold kernelRun0_A.sl.HS1_16 kernelRun0_A.sl.HS1_14
  simp only [List.exists_mem_cons_iff]
  have ht : (y 1).val < 384 := (y 1).isLt
  iterate 12
    refine cover_step ht (fun h1 h2 => mem_rows (1 - (i 0).val % 2) _ _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ y h0 h1 h2) ?_
    clear ht
    intro ht
  exact absurd ht (Nat.not_lt_zero _)

/-- The first slot, when the outputs read it. -/
theorem scales_first_A (r : Fin 384) (k : Fin 128) :
    arg14.view.read (Elt Ideal) (arg14.view.writes (Elt Ideal) (harg14.unread xs1) (kernelRun0_A.sl.HS1_12 c arg1 harg1 arg3 harg3 x0 x2)) (ix3 0 r k)
      = kscale (fun j => x0 (ix2 r j)) (fun j => x2 (ix2 0 j)) :=
  View.read_writes_apply_of_pieces _ _ (fun y => (fun _ r => kscale (fun j => x0 (ix2 r j)) (fun j => x2 (ix2 0 j)) : Fin 2 → Fin 384 → EReal) (y 0) (y 1)) _
    (scales_pieces_A0 c arg1 harg1 arg3 harg3 x0 x2 _ (fun _ _ _ => rfl)) _ (scales_cover_A0 c arg1 harg1 arg3 harg3 x0 x2 (ix3 0 r k) rfl)

/-- The second slot, after the body. -/
theorem scales_slot_A (hi : (i 0).val = 0) (r : Fin 384) (k : Fin 128) :
    arg14.view.read (Elt Ideal) (arg14.view.writes (Elt Ideal) (harg14.unread xs1) (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.2.1) (ix3 1 r k)
      = kscale (fun j => x1 (ix2 r j)) (fun j => x2 (ix2 0 j)) :=
  View.read_writes_apply_of_pieces _ _ (fun y => (fun s r => if s.val = 0 then kscale (fun j => x0 (ix2 r j)) (fun j => x2 (ix2 0 j)) else kscale (fun j => x1 (ix2 r j)) (fun j => x2 (ix2 0 j)) : Fin 2 → Fin 384 → EReal) (y 0) (y 1)) _
    (scales_pieces_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 _ (fun _ _ h => if_pos h) (fun _ _ h => if_neg (by rw [h, hi]; decide))) _
    (scales_cover_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 (ix3 1 r k) (by rw [hi]; rfl))

variable (hi : (i 0).val = 0)

include hi in
theorem first_A (h) (r : Fin 384) (k : Fin 2176) :
    View.readAt (Elt Ideal) arg13.view (Rect.unit (s := S2x384x2176) (k0_off1 i) ![1, 384, 2176] h).toLoadRect
        (arg13.view.writes (Elt Ideal) (harg13.unread xs0) (kernelRun0_A.sl.HS0_12 c arg1 harg1 arg3 harg3 x0 x2)) (ix3 0 r k)
      = kcode (fun j => x0 (ix2 r j)) (fun j => x2 (ix2 0 j)) k := by
  rw [slot_load _ _ 0 ((k0_off1_eq i).trans (by rw [hi]; rfl)), codes_first_A]

include hi in
theorem first_scale_A (h) (r : Fin 384) :
    View.readAt (Elt Ideal) arg14.view (Rect.unit (s := S2x384x128) (k0_off2 i) ![1, 384, 1] h).toLoadRect
        (arg14.view.writes (Elt Ideal) (harg14.unread xs1) (kernelRun0_A.sl.HS1_12 c arg1 harg1 arg3 harg3 x0 x2)) (ix3 0 r 0)
      = kscale (fun j => x0 (ix2 r j)) (fun j => x2 (ix2 0 j)) := by
  rw [slot_load_scale _ _ 0 ((k0_off2_eq i).trans (by rw [hi]; rfl)), scales_first_A]

include hi in
/-- Output 1, after the body. -/
theorem out5_A (v : View sig .tc .vmem S384x6144 .bf16) (f) (y : S384x6144.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).1) y = cols 0 (n := 6144) (by decide) (fun r k => kcode (fun j => x0 (ix2 r j)) (fun j => x2 (ix2 0 j)) k) (fun r => kscale (fun j => x0 (ix2 r j)) (fun j => x2 (ix2 0 j))) x3 x4 (y 0) (y 1) := by
  refine View.read_writes_apply_of_pieces v f (fun y => cols 0 (n := 6144) (by decide) (fun r k => kcode (fun j => x0 (ix2 r j)) (fun j => x2 (ix2 0 j)) k) (fun r => kscale (fun j => x0 (ix2 r j)) (fun j => x2 (ix2 0 j))) x3 x4 (y 0) (y 1)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).1 S384x512.size (by sl_kernel_rfl) y)
  unfold kernelRun0_A
  dsimp only
  simp only [List.forall_mem_cons, List.not_mem_nil, false_imp_iff, implies_true, and_true]
  refine ⟨?_, ?_, ?_, ?_, ?_, ?_, ?_, ?_, ?_, ?_, ?_, ?_⟩
  all_goals exact fun x => chunk_piece harg4 harg5 0 _ _ _ (by rfl) (fun r k => kcode (fun j => x0 (ix2 r j)) (fun j => x2 (ix2 0 j)) k) (fun r => kscale (fun j => x0 (ix2 r j)) (fun j => x2 (ix2 0 j))) x3 x4 _ (first_A c i arg1 harg1 arg3 harg3 arg13 harg13 x0 x2 xs0 hi _) _ (first_scale_A c i arg1 harg1 arg3 harg3 arg14 harg14 x0 x2 xs1 hi _) _ _ _ _ rfl x

include hi in
/-- Output 2, after the body. -/
theorem out6_A (v : View sig .tc .vmem S384x6144 .bf16) (f) (y : S384x6144.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.1) y = cols 6144 (n := 6144) (by decide) (fun r k => kcode (fun j => x0 (ix2 r j)) (fun j => x2 (ix2 0 j)) k) (fun r => kscale (fun j => x0 (ix2 r j)) (fun j => x2 (ix2 0 j))) x3 x4 (y 0) (y 1) := by
  refine View.read_writes_apply_of_pieces v f (fun y => cols 6144 (n := 6144) (by decide) (fun r k => kcode (fun j => x0 (ix2 r j)) (fun j => x2 (ix2 0 j)) k) (fun r => kscale (fun j => x0 (ix2 r j)) (fun j => x2 (ix2 0 j))) x3 x4 (y 0) (y 1)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.1 S384x512.size (by sl_kernel_rfl) y)
  unfold kernelRun0_A
  dsimp only
  simp only [List.forall_mem_cons, List.not_mem_nil, false_imp_iff, implies_true, and_true]
  refine ⟨?_, ?_, ?_, ?_, ?_, ?_, ?_, ?_, ?_, ?_, ?_, ?_⟩
  all_goals exact fun x => chunk_piece harg4 harg5 6144 _ _ _ (by rfl) (fun r k => kcode (fun j => x0 (ix2 r j)) (fun j => x2 (ix2 0 j)) k) (fun r => kscale (fun j => x0 (ix2 r j)) (fun j => x2 (ix2 0 j))) x3 x4 _ (first_A c i arg1 harg1 arg3 harg3 arg13 harg13 x0 x2 xs0 hi _) _ (first_scale_A c i arg1 harg1 arg3 harg3 arg14 harg14 x0 x2 xs1 hi _) _ _ _ _ rfl x

include hi in
/-- Output 3, after the body. -/
theorem out7_A (v : View sig .tc .vmem S384x128 .bf16) (f) (y : S384x128.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.1) y = cols 12288 (n := 128) (by decide) (fun r k => kcode (fun j => x0 (ix2 r j)) (fun j => x2 (ix2 0 j)) k) (fun r => kscale (fun j => x0 (ix2 r j)) (fun j => x2 (ix2 0 j))) x3 x4 (y 0) (y 1) := by
  refine View.read_writes_apply_of_pieces v f (fun y => cols 12288 (n := 128) (by decide) (fun r k => kcode (fun j => x0 (ix2 r j)) (fun j => x2 (ix2 0 j)) k) (fun r => kscale (fun j => x0 (ix2 r j)) (fun j => x2 (ix2 0 j))) x3 x4 (y 0) (y 1)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.1 S384x128.size (by sl_kernel_rfl) y)
  unfold kernelRun0_A
  dsimp only
  simp only [List.forall_mem_cons, List.not_mem_nil, false_imp_iff, implies_true, and_true]
  all_goals exact fun x => b_piece harg4 harg5 (fun r k => kcode (fun j => x0 (ix2 r j)) (fun j => x2 (ix2 0 j)) k) (fun r => kscale (fun j => x0 (ix2 r j)) (fun j => x2 (ix2 0 j))) x3 x4 _ (first_A c i arg1 harg1 arg3 harg3 arg13 harg13 x0 x2 xs0 hi _) _ (first_scale_A c i arg1 harg1 arg3 harg3 arg14 harg14 x0 x2 xs1 hi _) _ _ _ _ rfl x

include hi in
/-- Output 4, after the body. -/
theorem out8_A (v : View sig .tc .vmem S384x128 .bf16) (f) (y : S384x128.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.1) y = cols 12416 (n := 128) (by decide) (fun r k => kcode (fun j => x0 (ix2 r j)) (fun j => x2 (ix2 0 j)) k) (fun r => kscale (fun j => x0 (ix2 r j)) (fun j => x2 (ix2 0 j))) x3 x4 (y 0) (y 1) := by
  refine View.read_writes_apply_of_pieces v f (fun y => cols 12416 (n := 128) (by decide) (fun r k => kcode (fun j => x0 (ix2 r j)) (fun j => x2 (ix2 0 j)) k) (fun r => kscale (fun j => x0 (ix2 r j)) (fun j => x2 (ix2 0 j))) x3 x4 (y 0) (y 1)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.1 S384x128.size (by sl_kernel_rfl) y)
  unfold kernelRun0_A
  dsimp only
  simp only [List.forall_mem_cons, List.not_mem_nil, false_imp_iff, implies_true, and_true]
  all_goals exact fun x => c_piece harg4 harg5 (fun r k => kcode (fun j => x0 (ix2 r j)) (fun j => x2 (ix2 0 j)) k) (fun r => kscale (fun j => x0 (ix2 r j)) (fun j => x2 (ix2 0 j))) x3 x4 _ (first_A c i arg1 harg1 arg3 harg3 arg13 harg13 x0 x2 xs0 hi _) _ (first_scale_A c i arg1 harg1 arg3 harg3 arg14 harg14 x0 x2 xs1 hi _) _ _ _ _ rfl x

include hi in
/-- Output 5, after the body. -/
theorem out9_A (v : View sig .tc .vmem S384x96 .bf16) (f) (y : S384x96.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.1) y = cols 12544 (n := 96) (by decide) (fun r k => kcode (fun j => x0 (ix2 r j)) (fun j => x2 (ix2 0 j)) k) (fun r => kscale (fun j => x0 (ix2 r j)) (fun j => x2 (ix2 0 j))) x3 x4 (y 0) (y 1) := by
  refine View.read_writes_apply_of_pieces v f (fun y => cols 12544 (n := 96) (by decide) (fun r k => kcode (fun j => x0 (ix2 r j)) (fun j => x2 (ix2 0 j)) k) (fun r => kscale (fun j => x0 (ix2 r j)) (fun j => x2 (ix2 0 j))) x3 x4 (y 0) (y 1)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.1 S384x96.size (by sl_kernel_rfl) y)
  unfold kernelRun0_A
  dsimp only
  simp only [List.forall_mem_cons, List.not_mem_nil, false_imp_iff, implies_true, and_true]
  all_goals exact fun x => dt_piece harg4 harg5 (fun r k => kcode (fun j => x0 (ix2 r j)) (fun j => x2 (ix2 0 j)) k) (fun r => kscale (fun j => x0 (ix2 r j)) (fun j => x2 (ix2 0 j))) x3 x4 _ (first_A c i arg1 harg1 arg3 harg3 arg13 harg13 x0 x2 xs0 hi _) _ (first_scale_A c i arg1 harg1 arg3 harg3 arg14 harg14 x0 x2 xs1 hi _) _ _ _ _ rfl x

include hi in
/-- Output 6, after the body. -/
theorem out10_A (v : View sig .tc .vmem S384x2176 .fp8e4m3) (f) (y : S384x2176.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.1) y = ((fun r k => kcode (fun j => x0 (ix2 r j)) (fun j => x2 (ix2 0 j)) k) : Fin 384 → Fin 2176 → EReal) (y 0) (y 1) := by
  refine View.read_writes_apply_of_pieces v f (fun y => ((fun r k => kcode (fun j => x0 (ix2 r j)) (fun j => x2 (ix2 0 j)) k) : Fin 384 → Fin 2176 → EReal) (y 0) (y 1)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.1 S384x2176.size (by sl_kernel_rfl) y)
  unfold kernelRun0_A
  dsimp only
  simp only [List.forall_mem_cons, List.not_mem_nil, false_imp_iff, implies_true, and_true]
  all_goals exact fun x => q_piece (fun r k => kcode (fun j => x0 (ix2 r j)) (fun j => x2 (ix2 0 j)) k) _ (first_A c i arg1 harg1 arg3 harg3 arg13 harg13 x0 x2 xs0 hi _) _ _ rfl x

include hi in
/-- Output 7, after the body. -/
theorem out11_A (v : View sig .tc .vmem S384x1 .f32) (f) (y : S384x1.Idx) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.1) y = ((fun r => kscale (fun j => x0 (ix2 r j)) (fun j => x2 (ix2 0 j))) : Fin 384 → EReal) (y 0) := by
  refine View.read_writes_apply_of_pieces v f (fun y => ((fun r => kscale (fun j => x0 (ix2 r j)) (fun j => x2 (ix2 0 j))) : Fin 384 → EReal) (y 0)) _ ?_ y
    (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.1 S384x1.size (by sl_kernel_rfl) y)
  unfold kernelRun0_A
  dsimp only
  simp only [List.forall_mem_cons, List.not_mem_nil, false_imp_iff, implies_true, and_true]
  all_goals exact fun x => s_piece (fun r => kscale (fun j => x0 (ix2 r j)) (fun j => x2 (ix2 0 j))) _ (first_scale_A c i arg1 harg1 arg3 harg3 arg14 harg14 x0 x2 xs1 hi _) _ _ rfl x

end Cert.KernelIdeal.Gen

end
-- ==== Proof.RunB.lean ====
/- The kernel's body run once at a point after the first. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1776000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S384x2176 .bf16) (harg1 : arg1.IsWhole) (arg2 : Memref sig .tc .vmem S384x2176 .bf16) (harg2 : arg2.IsWhole) (arg3 : Memref sig .tc .vmem S1x2176 .f32) (harg3 : arg3.IsWhole) (arg4 : Memref sig .tc .vmem S12640x2176 .fp8e4m3) (harg4 : arg4.IsWhole) (arg5 : Memref sig .tc .vmem S1x12640 .f32) (harg5 : arg5.IsWhole) (arg6 : Memref sig .tc .vmem S384x6144 .bf16) (harg6 : arg6.IsWhole) (arg7 : Memref sig .tc .vmem S384x6144 .bf16) (harg7 : arg7.IsWhole) (arg8 : Memref sig .tc .vmem S384x128 .bf16) (harg8 : arg8.IsWhole) (arg9 : Memref sig .tc .vmem S384x128 .bf16) (harg9 : arg9.IsWhole) (arg10 : Memref sig .tc .vmem S384x96 .bf16) (harg10 : arg10.IsWhole) (arg11 : Memref sig .tc .vmem S384x2176 .fp8e4m3) (harg11 : arg11.IsWhole) (arg12 : Memref sig .tc .vmem S384x1 .f32) (harg12 : arg12.IsWhole) (arg13 : Memref sig .tc .vmem S2x384x2176 .fp8e4m3) (harg13 : arg13.IsWhole) (arg14 : Memref sig .tc .vmem S2x384x128 .f32) (harg14 : arg14.IsWhole) (hc0 : ¬cond0_0 i)
    (x0 : Vec F S384x2176 .bf16) (x1 : Vec F S384x2176 .bf16) (x2 : Vec F S1x2176 .f32) (x3 : Vec F S12640x2176 .fp8e4m3) (x4 : Vec F S1x12640 .f32) (xs0 : Vec F S2x384x2176 .fp8e4m3) (xs1 : Vec F S2x384x128 .f32) :
    Σ' (L5 : List (View.Piece (Elt F) S384x6144 .bf16)), Σ' (L6 : List (View.Piece (Elt F) S384x6144 .bf16)), Σ' (L7 : List (View.Piece (Elt F) S384x128 .bf16)), Σ' (L8 : List (View.Piece (Elt F) S384x128 .bf16)), Σ' (L9 : List (View.Piece (Elt F) S384x96 .bf16)), Σ' (L10 : List (View.Piece (Elt F) S384x2176 .fp8e4m3)), Σ' (L11 : List (View.Piece (Elt F) S384x1 .f32)), Σ' (LS0 : List (View.Piece (Elt F) S2x384x2176 .fp8e4m3)), { LS1 : List (View.Piece (Elt F) S2x384x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, fun E K => ?run⟩
  case run =>
    simp only [cc0_in_proj_eq_skeleton]; unfold cc0_in_proj_skel
    simp only [k0_part49_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iexact HS1

end Cert.KernelIdeal.Gen

end
-- ==== Proof.ValuesB.lean ====
/- What the body leaves at a point after the first: the outputs from the slot of the scratch it reads, and the other slot
   filled from the next block of rows. -/
module

public import proofs.«01_k».proof.Proof.RunB
public import proofs.«01_k».proof.Proof.Pieces

@[expose] public section

set_option maxRecDepth 100000

noncomputable section

namespace Cert.KernelIdeal.Gen

open Idealize.ShloMosaic Idealize.ShloMosaic.TcCoe Idealize.ShloMosaic.Tactic Cert.Quant

variable (c : Dev nD) (i : grid0.Coords) (arg1 : Memref sig .tc .vmem S384x2176 .bf16) (harg1 : arg1.IsWhole) (arg2 : Memref sig .tc .vmem S384x2176 .bf16) (harg2 : arg2.IsWhole) (arg3 : Memref sig .tc .vmem S1x2176 .f32) (harg3 : arg3.IsWhole) (arg4 : Memref sig .tc .vmem S12640x2176 .fp8e4m3) (harg4 : arg4.IsWhole) (arg5 : Memref sig .tc .vmem S1x12640 .f32) (harg5 : arg5.IsWhole) (arg6 : Memref sig .tc .vmem S384x6144 .bf16) (harg6 : arg6.IsWhole) (arg7 : Memref sig .tc .vmem S384x6144 .bf16) (harg7 : arg7.IsWhole) (arg8 : Memref sig .tc .vmem S384x128 .bf16) (harg8 : arg8.IsWhole) (arg9 : Memref sig .tc .vmem S384x128 .bf16) (harg9 : arg9.IsWhole) (arg10 : Memref sig .tc .vmem S384x96 .bf16) (harg10 : arg10.IsWhole) (arg11 : Memref sig .tc .vmem S384x2176 .fp8e4m3) (harg11 : arg11.IsWhole) (arg12 : Memref sig .tc .vmem S384x1 .f32) (harg12 : arg12.IsWhole) (arg13 : Memref sig .tc .vmem S2x384x2176 .fp8e4m3) (harg13 : arg13.IsWhole) (arg14 : Memref sig .tc .vmem S2x384x128 .f32) (harg14 : arg14.IsWhole) (hc0 : ¬cond0_0 i)
    (x0 : Vec Ideal S384x2176 .bf16) (x1 : Vec Ideal S384x2176 .bf16) (x2 : Vec Ideal S1x2176 .f32) (x3 : Vec Ideal S12640x2176 .fp8e4m3) (x4 : Vec Ideal S1x12640 .f32) (xs0 : Vec Ideal S2x384x2176 .fp8e4m3) (xs1 : Vec Ideal S2x384x128 .f32)

/-- Every store into the slot that is filled, row by row the codes of the next block. -/
theorem codes_pieces_B (qq : Fin 2 → Fin 384 → Fin 2176 → EReal)
    (hq : ∀ s r k, s.val = 1 - (i 0).val % 2 → qq s r k = kcode (fun j => x1 (ix2 r j)) (fun j => x2 (ix2 0 j)) k) :
    ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.1, ∀ x, p.2 x = qq (p.1.emb x 0) (p.1.emb x 1) (p.1.emb x 2) := by
  unfold kernelRun0_B
  dsimp only
  simp only [List.forall_mem_cons, List.not_mem_nil, false_imp_iff, implies_true, and_true]
  refine ⟨?_, ?_, ?_, ?_, ?_, ?_, ?_, ?_, ?_, ?_, ?_, ?_⟩
  all_goals exact fun x => codes_piece harg3 harg2 qq _ _ x1 x2 hq _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ _ _ _ rfl x

/-- They cover the slot. -/
theorem codes_cover_B (y : S2x384x2176.Idx) (h0 : (y 0).val = 1 - (i 0).val % 2) :
    ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.1, y ∈ p.1.set := by
  unfold kernelRun0_B
  dsimp only
  simp only [List.exists_mem_cons_iff]
  have ht : (y 1).val < 384 := (y 1).isLt
  iterate 12
    refine cover_step ht (fun h1 h2 => mem_rows (1 - (i 0).val % 2) _ _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ y h0 h1 h2) ?_
    clear ht
    intro ht
  exact absurd ht (Nat.not_lt_zero _)

/-- The slot, after the body. -/
theorem codes_slot_B (s : Fin 2) (h0 : s.val = 1 - (i 0).val % 2) (r : Fin 384) (k : Fin 2176) :
    arg13.view.read (Elt Ideal) (arg13.view.writes (Elt Ideal) (harg13.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.1) (ix3 s r k)
      = kcode (fun j => x1 (ix2 r j)) (fun j => x2 (ix2 0 j)) k :=
  View.read_writes_apply_of_pieces _ _ (fun y => (fun _ r k => kcode (fun j => x1 (ix2 r j)) (fun j => x2 (ix2 0 j)) k : Fin 2 → Fin 384 → Fin 2176 → EReal) (y 0) (y 1) (y 2)) _
    (codes_pieces_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 _ (fun _ _ _ _ => rfl)) _ (codes_cover_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 (ix3 s r k) h0)

/-- Every store into the slot that is filled, row by row the scales of the next block. -/
theorem scales_pieces_B (ss : Fin 2 → Fin 384 → EReal)
    (hs : ∀ s r, s.val = 1 - (i 0).val % 2 → ss s r = kscale (fun j => x1 (ix2 r j)) (fun j => x2 (ix2 0 j))) :
    ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.2.1, ∀ x, p.2 x = ss (p.1.emb x 0) (p.1.emb x 1) := by
  unfold kernelRun0_B
  dsimp only
  simp only [List.forall_mem_cons, List.not_mem_nil, false_imp_iff, implies_true, and_true]
  refine ⟨?_, ?_, ?_, ?_, ?_, ?_, ?_, ?_, ?_, ?_, ?_, ?_⟩
  all_goals exact fun x => scales_piece harg3 harg2 ss _ _ x1 x2 hs _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ _ _ _ rfl x

/-- They cover the slot. -/
theorem scales_cover_B (y : S2x384x128.Idx) (h0 : (y 0).val = 1 - (i 0).val % 2) :
    ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.2.1, y ∈ p.1.set := by
  unfold kernelRun0_B
  dsimp only
  simp only [List.exists_mem_cons_iff]
  have ht : (y 1).val < 384 := (y 1).isLt
  iterate 12
    refine cover_step ht (fun h1 h2 => mem_rows (1 - (i 0).val % 2) _ _ (by simp only [k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq]) _ y h0 h1 h2) ?_
    clear ht
    intro ht
  exact absurd ht (Nat.not_lt_zero _)

/-- The slot, after the body. -/
theorem scales_slot_B (s : Fin 2) (h0 : s.val = 1 - (i 0).val % 2) (r : Fin 384) (k : Fin 128) :
    arg14.view.read (Elt Ideal) (arg14.view.writes (Elt Ideal) (harg14.unread xs1) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.2.2.1) (ix3 s r k)
      = kscale (fun j => x1 (ix2 r j)) (fun j => x2 (ix2 0 j)) :=
  View.read_writes_apply_of_pieces _ _ (fun y => (fun _ r => kscale (fun j => x1 (ix2 r j)) (fun j => x2 (ix2 0 j)) : Fin 2 → Fin 384 → EReal) (y 0) (y 1)) _
    (scales_pieces_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 _ (fun _ _ _ => rfl)) _ (scales_cover_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 (ix3 s r k) h0)

variable (q : Fin 384 → Fin 2176 → EReal) (s : Fin 384 → EReal)
  (hq : ∀ r k, xs0 (ix3 ⟨(i 0).val % 2, Nat.mod_lt _ Nat.two_pos⟩ r k) = q r k)
  (hs : ∀ r, xs1 (ix3 ⟨(i 0).val % 2, Nat.mod_lt _ Nat.two_pos⟩ r 0) = s r)

include hq in
theorem slot_B (h) (r : Fin 384) (k : Fin 2176) :
    View.readAt (Elt Ideal) arg13.view (Rect.unit (s := S2x384x2176) (k0_off1 i) ![1, 384, 2176] h).toLoadRect (harg13.unread xs0) (ix3 0 r k) = q r k := by
  rw [slot_load _ _ ⟨(i 0).val % 2, Nat.mod_lt _ Nat.two_pos⟩ (k0_off1_eq i), harg13.read_unread, hq]

include hs in
theorem slot_scale_B (h) (r : Fin 384) :
    View.readAt (Elt Ideal) arg14.view (Rect.unit (s := S2x384x128) (k0_off2 i) ![1, 384, 1] h).toLoadRect (harg14.unread xs1) (ix3 0 r 0) = s r := by
  rw [slot_load_scale _ _ ⟨(i 0).val % 2, Nat.mod_lt _ Nat.two_pos⟩ (k0_off2_eq i), harg14.read_unread, hs]

include hq hs in
/-- Output 1, after the body. -/
theorem out5_B (v : View sig .tc .vmem S384x6144 .bf16) (f) (y : S384x6144.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).1) y = cols 0 (n := 6144) (by decide) q s x3 x4 (y 0) (y 1) := by
  refine View.read_writes_apply_of_pieces v f (fun y => cols 0 (n := 6144) (by decide) q s x3 x4 (y 0) (y 1)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).1 S384x512.size (by sl_kernel_rfl) y)
  unfold kernelRun0_B
  dsimp only
  simp only [List.forall_mem_cons, List.not_mem_nil, false_imp_iff, implies_true, and_true]
  refine ⟨?_, ?_, ?_, ?_, ?_, ?_, ?_, ?_, ?_, ?_, ?_, ?_⟩
  all_goals exact fun x => chunk_piece harg4 harg5 0 _ _ _ (by rfl) q s x3 x4 _ (slot_B i arg13 harg13 xs0 q hq _) _ (slot_scale_B i arg14 harg14 xs1 s hs _) _ _ _ _ rfl x

include hq hs in
/-- Output 2, after the body. -/
theorem out6_B (v : View sig .tc .vmem S384x6144 .bf16) (f) (y : S384x6144.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.1) y = cols 6144 (n := 6144) (by decide) q s x3 x4 (y 0) (y 1) := by
  refine View.read_writes_apply_of_pieces v f (fun y => cols 6144 (n := 6144) (by decide) q s x3 x4 (y 0) (y 1)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.1 S384x512.size (by sl_kernel_rfl) y)
  unfold kernelRun0_B
  dsimp only
  simp only [List.forall_mem_cons, List.not_mem_nil, false_imp_iff, implies_true, and_true]
  refine ⟨?_, ?_, ?_, ?_, ?_, ?_, ?_, ?_, ?_, ?_, ?_, ?_⟩
  all_goals exact fun x => chunk_piece harg4 harg5 6144 _ _ _ (by rfl) q s x3 x4 _ (slot_B i arg13 harg13 xs0 q hq _) _ (slot_scale_B i arg14 harg14 xs1 s hs _) _ _ _ _ rfl x

include hq hs in
/-- Output 3, after the body. -/
theorem out7_B (v : View sig .tc .vmem S384x128 .bf16) (f) (y : S384x128.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.1) y = cols 12288 (n := 128) (by decide) q s x3 x4 (y 0) (y 1) := by
  refine View.read_writes_apply_of_pieces v f (fun y => cols 12288 (n := 128) (by decide) q s x3 x4 (y 0) (y 1)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.1 S384x128.size (by sl_kernel_rfl) y)
  unfold kernelRun0_B
  dsimp only
  simp only [List.forall_mem_cons, List.not_mem_nil, false_imp_iff, implies_true, and_true]
  all_goals exact fun x => b_piece harg4 harg5 q s x3 x4 _ (slot_B i arg13 harg13 xs0 q hq _) _ (slot_scale_B i arg14 harg14 xs1 s hs _) _ _ _ _ rfl x

include hq hs in
/-- Output 4, after the body. -/
theorem out8_B (v : View sig .tc .vmem S384x128 .bf16) (f) (y : S384x128.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.1) y = cols 12416 (n := 128) (by decide) q s x3 x4 (y 0) (y 1) := by
  refine View.read_writes_apply_of_pieces v f (fun y => cols 12416 (n := 128) (by decide) q s x3 x4 (y 0) (y 1)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.1 S384x128.size (by sl_kernel_rfl) y)
  unfold kernelRun0_B
  dsimp only
  simp only [List.forall_mem_cons, List.not_mem_nil, false_imp_iff, implies_true, and_true]
  all_goals exact fun x => c_piece harg4 harg5 q s x3 x4 _ (slot_B i arg13 harg13 xs0 q hq _) _ (slot_scale_B i arg14 harg14 xs1 s hs _) _ _ _ _ rfl x

include hq hs in
/-- Output 5, after the body. -/
theorem out9_B (v : View sig .tc .vmem S384x96 .bf16) (f) (y : S384x96.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.1) y = cols 12544 (n := 96) (by decide) q s x3 x4 (y 0) (y 1) := by
  refine View.read_writes_apply_of_pieces v f (fun y => cols 12544 (n := 96) (by decide) q s x3 x4 (y 0) (y 1)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.1 S384x96.size (by sl_kernel_rfl) y)
  unfold kernelRun0_B
  dsimp only
  simp only [List.forall_mem_cons, List.not_mem_nil, false_imp_iff, implies_true, and_true]
  all_goals exact fun x => dt_piece harg4 harg5 q s x3 x4 _ (slot_B i arg13 harg13 xs0 q hq _) _ (slot_scale_B i arg14 harg14 xs1 s hs _) _ _ _ _ rfl x

include hq in
/-- Output 6, after the body. -/
theorem out10_B (v : View sig .tc .vmem S384x2176 .fp8e4m3) (f) (y : S384x2176.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.1) y = q (y 0) (y 1) := by
  refine View.read_writes_apply_of_pieces v f (fun y => q (y 0) (y 1)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.1 S384x2176.size (by sl_kernel_rfl) y)
  unfold kernelRun0_B
  dsimp only
  simp only [List.forall_mem_cons, List.not_mem_nil, false_imp_iff, implies_true, and_true]
  all_goals exact fun x => q_piece q _ (slot_B i arg13 harg13 xs0 q hq _) _ _ rfl x

include hs in
/-- Output 7, after the body. -/
theorem out11_B (v : View sig .tc .vmem S384x1 .f32) (f) (y : S384x1.Idx) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.1) y = s (y 0) := by
  refine View.read_writes_apply_of_pieces v f (fun y => s (y 0)) _ ?_ y
    (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).2.2.2.2.2.2.1 S384x1.size (by sl_kernel_rfl) y)
  unfold kernelRun0_B
  dsimp only
  simp only [List.forall_mem_cons, List.not_mem_nil, false_imp_iff, implies_true, and_true]
  all_goals exact fun x => s_piece s _ (slot_scale_B i arg14 harg14 xs1 s hs _) _ _ rfl x

end Cert.KernelIdeal.Gen

end
-- ==== Proof.Body.lean ====
/- The kernel's run over the extended reals. Between points the scratch holds, in the slot the next point reads, the codes and
   scales of the next block of rows; each point leaves its own block's results in the output windows. -/
module

public import proofs.«01_k».proof.Proof.Blocks
public import proofs.«01_k».proof.Proof.ValuesA
public import proofs.«01_k».proof.Proof.ValuesB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Quant

local notation "𝕄" => MT nD τ sig Unit (Elt Ideal) ℕ (UR sig nD τ) ℕ

variable (m : (ℓ : Loc nD τ sig) → Buf (Elt Ideal) ℓ) (ρ : Dev nD → PrngReg)

/-- The scratch before point `n` that is not the first: block `n`'s codes and scales in slot `n % 2`. -/
def CodesHeld (c : Dev nD) (n : ℕ) (x : Vec Ideal S2x384x2176 .fp8e4m3) : Prop :=
  ∀ (s : Fin 2) (r : Fin 384) (k : Fin 2176), s.val = n % 2 → x (ix3 s r k) = codesAt m c n r k

def ScalesHeld (c : Dev nD) (n : ℕ) (x : Vec Ideal S2x384x128 .f32) : Prop :=
  ∀ (s : Fin 2) (r : Fin 384), s.val = n % 2 → x (ix3 s r 0) = scaleAt m c n r

/-- The region invariant before point `n`. -/
def PhiS (c : Dev nD) : ℕ → sProp 𝕄
  | 0 => Pipeline.ΦA spec0 c
  | n + 1 => iprop(iprop((∃ x, ⌜CodesHeld m c (n + 1) x⌝ ∗ owns (c : Thread nD τ) scM0_0 fullShare x) ∗ (∃ x, ⌜ScalesHeld m c (n + 1) x⌝ ∗ owns (c : Thread nD τ) scM0_1 fullShare x)) ∗ (∃ r, prngReg c r))

theorem PhiS_pos (c : Dev nD) (n : ℕ) (hz : n ≠ 0) :
    PhiS m c n = iprop(iprop((∃ x, ⌜CodesHeld m c n x⌝ ∗ owns (c : Thread nD τ) scM0_0 fullShare x) ∗ (∃ x, ⌜ScalesHeld m c n x⌝ ∗ owns (c : Thread nD τ) scM0_1 fullShare x)) ∗ (∃ r, prngReg c r)) := by
  cases n with
  | zero => exact absurd rfl hz
  | succ n => rfl

/-- What point `t` leaves in a projection's window. -/
def colsAt (c : Dev nD) (t : Fin cfg0.N) (o : ℕ) {n : ℕ} (ho : o + n ≤ 12640) (r : Fin 384) (j : Fin n) : EReal :=
  cols o ho (codesAt m c t.val) (scaleAt m c t.val) (iblk m c 3 t) (iblk m c 4 t) r j

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun (y : S384x6144.Idx) => colsAt m c t 0 (n := 6144) (by decide) (y 0) (y 1)
    | ⟨6, _⟩ => fun (y : S384x6144.Idx) => colsAt m c t 6144 (n := 6144) (by decide) (y 0) (y 1)
    | ⟨7, _⟩ => fun (y : S384x128.Idx) => colsAt m c t 12288 (n := 128) (by decide) (y 0) (y 1)
    | ⟨8, _⟩ => fun (y : S384x128.Idx) => colsAt m c t 12416 (n := 128) (by decide) (y 0) (y 1)
    | ⟨9, _⟩ => fun (y : S384x96.Idx) => colsAt m c t 12544 (n := 96) (by decide) (y 0) (y 1)
    | ⟨10, _⟩ => fun (y : S384x2176.Idx) => codesAt m c t.val (y 0) (y 1)
    | ⟨11, _⟩ => fun (y : S384x1.Idx) => scaleAt m c t.val (y 0)
  Φ t := PhiS m c t.val
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = fun (y : S384x6144.Idx) => colsAt m c t 0 (n := 6144) (by decide) (y 0) (y 1) := by dsimp only [dats]
theorem after0_6 (c : Dev nD) (t : Fin cfg0.N) : (dats m 0 c).after 6 t = fun (y : S384x6144.Idx) => colsAt m c t 6144 (n := 6144) (by decide) (y 0) (y 1) := by dsimp only [dats]
theorem after0_7 (c : Dev nD) (t : Fin cfg0.N) : (dats m 0 c).after 7 t = fun (y : S384x128.Idx) => colsAt m c t 12288 (n := 128) (by decide) (y 0) (y 1) := by dsimp only [dats]
theorem after0_8 (c : Dev nD) (t : Fin cfg0.N) : (dats m 0 c).after 8 t = fun (y : S384x128.Idx) => colsAt m c t 12416 (n := 128) (by decide) (y 0) (y 1) := by dsimp only [dats]
theorem after0_9 (c : Dev nD) (t : Fin cfg0.N) : (dats m 0 c).after 9 t = fun (y : S384x96.Idx) => colsAt m c t 12544 (n := 96) (by decide) (y 0) (y 1) := by dsimp only [dats]
theorem after0_10 (c : Dev nD) (t : Fin cfg0.N) : (dats m 0 c).after 10 t = fun (y : S384x2176.Idx) => codesAt m c t.val (y 0) (y 1) := by dsimp only [dats]
theorem after0_11 (c : Dev nD) (t : Fin cfg0.N) : (dats m 0 c).after 11 t = fun (y : S384x1.Idx) => scaleAt m c t.val (y 0) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- The grid's one coordinate is the point. -/
theorem coord0 (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  omega

/-- The first block's codes and scales, from window 0 at the first point. -/
theorem first_codes (c : Dev nD) (t : Fin cfg0.N) (hz : t.val = 0) :
    (fun (r : Fin 384) (k : Fin 2176) => kcode (fun j => iblk m c 0 t (ix2 r j)) (fun j => iblk m c 2 t (ix2 0 j)) k) = codesAt m c t.val := by
  funext r k; rw [hz]; unfold codesAt; simp only [iblk0, iblk2]

theorem first_scales (c : Dev nD) (t : Fin cfg0.N) (hz : t.val = 0) :
    (fun (r : Fin 384) => kscale (fun j => iblk m c 0 t (ix2 r j)) (fun j => iblk m c 2 t (ix2 0 j))) = scaleAt m c t.val := by
  funext r; rw [hz]; unfold scaleAt; simp only [iblk0, iblk2]

/-- The next block's, from window 1. -/
theorem next_codes (c : Dev nD) (t : Fin cfg0.N) (r : Fin 384) (k : Fin 2176) :
    kcode (fun j => iblk m c 1 t (ix2 r j)) (fun j => iblk m c 2 t (ix2 0 j)) k = codesAt m c (t.val + 1) r k := by
  unfold codesAt; simp only [iblk1, iblk2]

theorem next_scale (c : Dev nD) (t : Fin cfg0.N) (r : Fin 384) :
    kscale (fun j => iblk m c 1 t (ix2 r j)) (fun j => iblk m c 2 t (ix2 0 j)) = scaleAt m c (t.val + 1) r := by
  unfold scaleAt; simp only [iblk1, iblk2]

/-! ## What the run at a point leaves -/

section Point

variable (c : Dev nD) (t : Fin cfg0.N) (z0 : Vec Ideal S2x384x2176 .fp8e4m3) (z1 : Vec Ideal S2x384x128 .f32)

theorem left5_A (h0 : t.val % 32 = 0) (hz : t.val = 0) (v : View sig .tc .vmem S384x6144 .bf16) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).1) = fun (y : S384x6144.Idx) => colsAt m c t 0 (n := 6144) (by decide) (y 0) (y 1) := by
  funext y
  refine (out5_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_codes m c t hz, first_scales m c t hz]; rfl

theorem left6_A (h0 : t.val % 32 = 0) (hz : t.val = 0) (v : View sig .tc .vmem S384x6144 .bf16) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.1) = fun (y : S384x6144.Idx) => colsAt m c t 6144 (n := 6144) (by decide) (y 0) (y 1) := by
  funext y
  refine (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_codes m c t hz, first_scales m c t hz]; rfl

theorem left7_A (h0 : t.val % 32 = 0) (hz : t.val = 0) (v : View sig .tc .vmem S384x128 .bf16) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.1) = fun (y : S384x128.Idx) => colsAt m c t 12288 (n := 128) (by decide) (y 0) (y 1) := by
  funext y
  refine (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_codes m c t hz, first_scales m c t hz]; rfl

theorem left8_A (h0 : t.val % 32 = 0) (hz : t.val = 0) (v : View sig .tc .vmem S384x128 .bf16) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.1) = fun (y : S384x128.Idx) => colsAt m c t 12416 (n := 128) (by decide) (y 0) (y 1) := by
  funext y
  refine (out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_codes m c t hz, first_scales m c t hz]; rfl

theorem left9_A (h0 : t.val % 32 = 0) (hz : t.val = 0) (v : View sig .tc .vmem S384x96 .bf16) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.2.1) = fun (y : S384x96.Idx) => colsAt m c t 12544 (n := 96) (by decide) (y 0) (y 1) := by
  funext y
  refine (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_codes m c t hz, first_scales m c t hz]; rfl

theorem left10_A (h0 : t.val % 32 = 0) (hz : t.val = 0) (v : View sig .tc .vmem S384x2176 .fp8e4m3) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.2.2.1) = fun (y : S384x2176.Idx) => codesAt m c t.val (y 0) (y 1) := by
  funext y
  refine (out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_codes m c t hz]

theorem left11_A (h0 : t.val % 32 = 0) (hz : t.val = 0) (v : View sig .tc .vmem S384x1 .f32) (f) :
    v.read (Elt Ideal) (v.writes (Elt Ideal) f (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.2.2.2.1) = fun (y : S384x1.Idx) => scaleAt m c t.val (y 0) := by
  funext y
  refine (out11_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) v f y).trans ?_
  rw [first_scales m c t hz]

theorem held_codes_A (h0 : t.val % 32 = 0) (hz : t.val = 0) :
    CodesHeld m c (t.val + 1) (scM0_0.view.read (Elt Ideal) (scM0_0.view.writes (Elt Ideal) ((Memref.isWhole_whole _ : scM0_0.IsWhole).unread z0) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.2.2.2.2.1)) := by
  intro s r k hsl
  have hs1 : s = 1 := Fin.ext (by rw [hsl, hz]; rfl)
  rw [hs1, codes_slot_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) r k]
  exact next_codes m c t r k

theorem held_scales_A (h0 : t.val % 32 = 0) (hz : t.val = 0) :
    ScalesHeld m c (t.val + 1) (scM0_1.view.read (Elt Ideal) (scM0_1.view.writes (Elt Ideal) ((Memref.isWhole_whole _ : scM0_1.IsWhole).unread z1) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.2.2.2.2.2.1)) := by
  intro s r hsl
  have hs1 : s = 1 := Fin.ext (by rw [hsl, hz]; rfl)
  rw [hs1, scales_slot_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1 ((coord0 t).trans hz) r 0]
  exact next_scale m c t r

theorem left5_B (h0 : ¬t.val % 32 = 0) (hq : CodesHeld m c t.val z0) (hs : ScalesHeld m c t.val z1) (v : View sig .tc .vmem S384x6144 .bf16) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).1) = fun (y : S384x6144.Idx) => colsAt m c t 0 (n := 6144) (by decide) (y 0) (y 1) := by
  funext y
  exact out5_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (codesAt m c t.val) (scaleAt m c t.val) (fun r k => hq _ r k (congrArg (· % 2) (coord0 t))) (fun r => hs _ r (congrArg (· % 2) (coord0 t))) v f y

theorem left6_B (h0 : ¬t.val % 32 = 0) (hq : CodesHeld m c t.val z0) (hs : ScalesHeld m c t.val z1) (v : View sig .tc .vmem S384x6144 .bf16) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.1) = fun (y : S384x6144.Idx) => colsAt m c t 6144 (n := 6144) (by decide) (y 0) (y 1) := by
  funext y
  exact out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (codesAt m c t.val) (scaleAt m c t.val) (fun r k => hq _ r k (congrArg (· % 2) (coord0 t))) (fun r => hs _ r (congrArg (· % 2) (coord0 t))) v f y

theorem left7_B (h0 : ¬t.val % 32 = 0) (hq : CodesHeld m c t.val z0) (hs : ScalesHeld m c t.val z1) (v : View sig .tc .vmem S384x128 .bf16) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.1) = fun (y : S384x128.Idx) => colsAt m c t 12288 (n := 128) (by decide) (y 0) (y 1) := by
  funext y
  exact out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (codesAt m c t.val) (scaleAt m c t.val) (fun r k => hq _ r k (congrArg (· % 2) (coord0 t))) (fun r => hs _ r (congrArg (· % 2) (coord0 t))) v f y

theorem left8_B (h0 : ¬t.val % 32 = 0) (hq : CodesHeld m c t.val z0) (hs : ScalesHeld m c t.val z1) (v : View sig .tc .vmem S384x128 .bf16) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.1) = fun (y : S384x128.Idx) => colsAt m c t 12416 (n := 128) (by decide) (y 0) (y 1) := by
  funext y
  exact out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (codesAt m c t.val) (scaleAt m c t.val) (fun r k => hq _ r k (congrArg (· % 2) (coord0 t))) (fun r => hs _ r (congrArg (· % 2) (coord0 t))) v f y

theorem left9_B (h0 : ¬t.val % 32 = 0) (hq : CodesHeld m c t.val z0) (hs : ScalesHeld m c t.val z1) (v : View sig .tc .vmem S384x96 .bf16) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.2.1) = fun (y : S384x96.Idx) => colsAt m c t 12544 (n := 96) (by decide) (y 0) (y 1) := by
  funext y
  exact out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (codesAt m c t.val) (scaleAt m c t.val) (fun r k => hq _ r k (congrArg (· % 2) (coord0 t))) (fun r => hs _ r (congrArg (· % 2) (coord0 t))) v f y

theorem left10_B (h0 : ¬t.val % 32 = 0) (hq : CodesHeld m c t.val z0) (hs : ScalesHeld m c t.val z1) (v : View sig .tc .vmem S384x2176 .fp8e4m3) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.2.2.1) = fun (y : S384x2176.Idx) => codesAt m c t.val (y 0) (y 1) := by
  funext y
  exact out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (codesAt m c t.val) (fun r k => hq _ r k (congrArg (· % 2) (coord0 t))) v f y

theorem left11_B (h0 : ¬t.val % 32 = 0) (hq : CodesHeld m c t.val z0) (hs : ScalesHeld m c t.val z1) (v : View sig .tc .vmem S384x1 .f32) (f) :
    v.read (Elt Ideal) (v.writes (Elt Ideal) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.2.2.2.1) = fun (y : S384x1.Idx) => scaleAt m c t.val (y 0) := by
  funext y
  exact out11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 (scaleAt m c t.val) (fun r => hs _ r (congrArg (· % 2) (coord0 t))) v f y

theorem held_codes_B (h0 : ¬t.val % 32 = 0) (hq : CodesHeld m c t.val z0) (hs : ScalesHeld m c t.val z1) :
    CodesHeld m c (t.val + 1) (scM0_0.view.read (Elt Ideal) (scM0_0.view.writes (Elt Ideal) ((Memref.isWhole_whole _ : scM0_0.IsWhole).unread z0) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.2.2.2.2.1)) := by
  intro s r k hsl
  exact (codes_slot_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 s (by rw [hsl, coord0]; omega) r k).trans (next_codes m c t r k)

theorem held_scales_B (h0 : ¬t.val % 32 = 0) (hq : CodesHeld m c t.val z0) (hs : ScalesHeld m c t.val z1) :
    ScalesHeld m c (t.val + 1) (scM0_1.view.read (Elt Ideal) (scM0_1.view.writes (Elt Ideal) ((Memref.isWhole_whole _ : scM0_1.IsWhole).unread z1) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.2.2.2.2.2.1)) := by
  intro s r hsl
  exact (scales_slot_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1 s (by rw [hsl, coord0]; omega) r 0).trans (next_scale m c t r)

end Point

set_option maxHeartbeats 9600000 in
/-- The body at any point: the inputs' memrefs hold their blocks; the closed form of the condition says which case the point is
    in; the run applies at what the invariant says the scratch holds, and hands the invariant of the next point back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) from rfl, show (dats m 0 c).Φ t.castSucc = PhiS m c t.val from rfl, PhiS_pos m c (t.val + 1) (Nat.succ_ne_zero _)]
  have hN : t.val < 32 := lt_of_lt_of_eq t.isLt (show cfg0.N = 32 from N_0)
  by_cases h0 : t.val % 32 = 0
  · have hz : t.val = 0 := by omega
    rw [show PhiS m c t.val = Pipeline.ΦA spec0 c from (by rw [hz]; rfl), PhiA0_eq]
    iintro ⟨⟨⟨⟨%z0, HS0⟩, ⟨%z1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) z0 z1).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, ⟨%e5, H5⟩, ⟨%e6, H6⟩, ⟨%e7, H7⟩, ⟨%e8, H8⟩, ⟨%e9, H9⟩, ⟨%e10, H10⟩, ⟨%e11, H11⟩, HS0, HS1⟩
    isplitl [HS0 HS1 Hg]
    · isplitl [HS0 HS1]
      · isplitl [HS0]
        · iexists _; isplitr
          · ipureintro; exact held_codes_A m c t z0 z1 h0 hz
          unfold owns; iexists _; isplitr
          swap; · iexact HS0
          ipureintro; rfl
        iexists _; isplitr
        · ipureintro; exact held_scales_A m c t z0 z1 h0 hz
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact left5_A m c t z0 z1 h0 hz _ _
    isplitl [H6]
    · unfold owns; iexists _; isplitr
      swap; · iexact H6
      ipureintro; exact left6_A m c t z0 z1 h0 hz _ _
    isplitl [H7]
    · unfold owns; iexists _; isplitr
      swap; · iexact H7
      ipureintro; exact left7_A m c t z0 z1 h0 hz _ _
    isplitl [H8]
    · unfold owns; iexists _; isplitr
      swap; · iexact H8
      ipureintro; exact left8_A m c t z0 z1 h0 hz _ _
    isplitl [H9]
    · unfold owns; iexists _; isplitr
      swap; · iexact H9
      ipureintro; exact left9_A m c t z0 z1 h0 hz _ _
    isplitl [H10]
    · unfold owns; iexists _; isplitr
      swap; · iexact H10
      ipureintro; exact left10_A m c t z0 z1 h0 hz _ _
    unfold owns; iexists _; isplitr
    swap; · iexact H11
    ipureintro; exact left11_A m c t z0 z1 h0 hz _ _
  · rw [PhiS_pos m c t.val (fun h => h0 (by rw [h]))]
    iintro ⟨⟨⟨⟨%z0, %hq, HS0⟩, ⟨%z1, %hs, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) z0 z1).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, ⟨%e5, H5⟩, ⟨%e6, H6⟩, ⟨%e7, H7⟩, ⟨%e8, H8⟩, ⟨%e9, H9⟩, ⟨%e10, H10⟩, ⟨%e11, H11⟩, HS0, HS1⟩
    isplitl [HS0 HS1 Hg]
    · isplitl [HS0 HS1]
      · isplitl [HS0]
        · iexists _; isplitr
          · ipureintro; exact held_codes_B m c t z0 z1 h0 hq hs
          unfold owns; iexists _; isplitr
          swap; · iexact HS0
          ipureintro; rfl
        iexists _; isplitr
        · ipureintro; exact held_scales_B m c t z0 z1 h0 hq hs
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact left5_B m c t z0 z1 h0 hq hs _ _
    isplitl [H6]
    · unfold owns; iexists _; isplitr
      swap; · iexact H6
      ipureintro; exact left6_B m c t z0 z1 h0 hq hs _ _
    isplitl [H7]
    · unfold owns; iexists _; isplitr
      swap; · iexact H7
      ipureintro; exact left7_B m c t z0 z1 h0 hq hs _ _
    isplitl [H8]
    · unfold owns; iexists _; isplitr
      swap; · iexact H8
      ipureintro; exact left8_B m c t z0 z1 h0 hq hs _ _
    isplitl [H9]
    · unfold owns; iexists _; isplitr
      swap; · iexact H9
      ipureintro; exact left9_B m c t z0 z1 h0 hq hs _ _
    isplitl [H10]
    · unfold owns; iexists _; isplitr
      swap; · iexact H10
      ipureintro; exact left10_B m c t z0 z1 h0 hq hs _ _
    unfold owns; iexists _; isplitr
    swap; · iexact H11
    ipureintro; exact left11_B m c t z0 z1 h0 hq hs _ _

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 :=
  Idealize.SL.BI.Entails.refl _

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = PhiS m c 32 from congrArg (PhiS m c) N_0, PhiS_pos m c 32 (by decide), PhiA0_eq]
  iintro ⟨⟨⟨%z0, %hq, HS0⟩, ⟨%z1, %hs, HS1⟩⟩, Hg⟩
  isplitl [HS0 HS1]
  · isplitl [HS0]
    · iexists _; iexact HS0
    iexists _; iexact HS1
  iexact Hg

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Results.lean ====
/- A block of the projection's columns. -/
module

public import proofs.«01_k».proof.Proof.Row

@[expose] public section

noncomputable section

namespace Cert.Quant

/-- Column `j` of the `n` columns from `o`, of row `r` of the projection: codes `q`, scales `s`, weights `w`, weight scales `ws`. -/
def projAt (o : ℕ) {n : ℕ} (ho : o + n ≤ 12640) (q : Fin 12288 → Fin 2176 → EReal) (s : Fin 12288 → EReal)
    (w : Fin 12640 → Fin 2176 → EReal) (ws : Fin 12640 → EReal) (r : Fin 12288) (j : Fin n) : EReal :=
  proj (q r) (s r) (w ⟨o + j.val, by omega⟩) (ws ⟨o + j.val, by omega⟩)

end Cert.Quant

end
-- ==== Proof.Arrays.lean ====
/- The kernel's seven results in closed form. -/
module

public import proofs.«01_k».proof.Proof.Body
public import proofs.«01_k».proof.Proof.Results
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.Quant

variable (m : (ℓ : Loc nD τ sig) → Buf (Elt Ideal) ℓ) (c : Dev nD)

def wRow (o : Fin 12640) (k : Fin 2176) : EReal := V m c main_arg2 (ix2 o k)

def wsRow (o : Fin 12640) : EReal := V m c main_v2 (ix2 0 o)

theorem blockRow_eq (t : Fin cfg0.N) (r : Fin 384) (r' : Fin 12288) (hr : r'.val = t.val * 384 + r.val) : blockRow t.val r = r' :=
  Fin.ext (by
    have ht : t.val < 32 := t.isLt
    simp only [blockRow, hr]; omega)

theorem codesAt_eq (t : Fin cfg0.N) (r : Fin 384) (k : Fin 2176) (r' : Fin 12288) (k' : Fin 2176)
    (hr : r'.val = t.val * 384 + r.val) (hk : k'.val = k.val) :
    codesAt m c t.val r k = kcode (uRow m c r') (nwRow m c) k' := by
  obtain rfl : k' = k := Fin.ext hk
  rw [← blockRow_eq t r r' hr]; rfl

theorem scaleAt_eq (t : Fin cfg0.N) (r : Fin 384) (r' : Fin 12288) (hr : r'.val = t.val * 384 + r.val) :
    scaleAt m c t.val r = kscale (uRow m c r') (nwRow m c) := by
  rw [← blockRow_eq t r r' hr]; rfl

/-- The array's row and column of row and column `r`, `j` of the block written at a point. -/
theorem colsAt_eq (t : Fin cfg0.N) (o : ℕ) {n : ℕ} (ho : o + n ≤ 12640) (r : Fin 384) (j : Fin n) (r' : Fin 12288) (j' : Fin n)
    (hr : r'.val = t.val * 384 + r.val) (hj : j'.val = j.val) :
    colsAt m c t o ho r j
      = projAt o ho (fun r => kcode (uRow m c r) (nwRow m c)) (fun r => kscale (uRow m c r) (nwRow m c)) (wRow m c) (wsRow m c) r' j' := by
  obtain rfl : j' = j := Fin.ext hj
  rw [← blockRow_eq t r r' hr]
  simp only [colsAt, cols, iblk3, iblk4]
  rfl

theorem arr5 : (dats m 0 c).arrAt 5 cfg0.N = fun i : S12288x6144.Idx =>
    projAt 0 (n := 6144) (by decide) (fun r => kcode (uRow m c r) (nwRow m c)) (fun r => kscale (uRow m c r) (nwRow m c))
      (wRow m c) (wsRow m c) (i 0) (i 1) := by
  refine (dats m 0 c).arrAt_eq_of_covers 5 _ (by decide +kernel) fun t hf y => ?_
  blk_simp [idx_out t]
  rw [after0_5]
  exact colsAt_eq m c t 0 _ (y 0) (y 1) _ _ (by blk_simp [idx_out t]) (by blk_simp [idx_out t])

theorem arr6 : (dats m 0 c).arrAt 6 cfg0.N = fun i : S12288x6144.Idx =>
    projAt 6144 (n := 6144) (by decide) (fun r => kcode (uRow m c r) (nwRow m c)) (fun r => kscale (uRow m c r) (nwRow m c))
      (wRow m c) (wsRow m c) (i 0) (i 1) := by
  refine (dats m 0 c).arrAt_eq_of_covers 6 _ (by decide +kernel) fun t hf y => ?_
  blk_simp [idx_out t]
  rw [after0_6]
  exact colsAt_eq m c t 6144 _ (y 0) (y 1) _ _ (by blk_simp [idx_out t]) (by blk_simp [idx_out t])

theorem arr7 : (dats m 0 c).arrAt 7 cfg0.N = fun i : S12288x128.Idx =>
    projAt 12288 (n := 128) (by decide) (fun r => kcode (uRow m c r) (nwRow m c)) (fun r => kscale (uRow m c r) (nwRow m c))
      (wRow m c) (wsRow m c) (i 0) (i 1) := by
  refine (dats m 0 c).arrAt_eq_of_covers 7 _ (by decide +kernel) fun t hf y => ?_
  blk_simp [idx_out t]
  rw [after0_7]
  exact colsAt_eq m c t 12288 _ (y 0) (y 1) _ _ (by blk_simp [idx_out t]) (by blk_simp [idx_out t])

theorem arr8 : (dats m 0 c).arrAt 8 cfg0.N = fun i : S12288x128.Idx =>
    projAt 12416 (n := 128) (by decide) (fun r => kcode (uRow m c r) (nwRow m c)) (fun r => kscale (uRow m c r) (nwRow m c))
      (wRow m c) (wsRow m c) (i 0) (i 1) := by
  refine (dats m 0 c).arrAt_eq_of_covers 8 _ (by decide +kernel) fun t hf y => ?_
  blk_simp [idx_out t]
  rw [after0_8]
  exact colsAt_eq m c t 12416 _ (y 0) (y 1) _ _ (by blk_simp [idx_out t]) (by blk_simp [idx_out t])

theorem arr9 : (dats m 0 c).arrAt 9 cfg0.N = fun i : S12288x96.Idx =>
    projAt 12544 (n := 96) (by decide) (fun r => kcode (uRow m c r) (nwRow m c)) (fun r => kscale (uRow m c r) (nwRow m c))
      (wRow m c) (wsRow m c) (i 0) (i 1) := by
  refine (dats m 0 c).arrAt_eq_of_covers 9 _ (by decide +kernel) fun t hf y => ?_
  blk_simp [idx_out t]
  rw [after0_9]
  exact colsAt_eq m c t 12544 _ (y 0) (y 1) _ _ (by blk_simp [idx_out t]) (by blk_simp [idx_out t])

theorem arr10 : (dats m 0 c).arrAt 10 cfg0.N = fun i : S12288x2176.Idx => kcode (uRow m c (i 0)) (nwRow m c) (i 1) := by
  refine (dats m 0 c).arrAt_eq_of_covers 10 _ (by decide +kernel) fun t hf y => ?_
  blk_simp [idx_out t]
  rw [after0_10]
  exact codesAt_eq m c t (y 0) (y 1) _ _ (by blk_simp [idx_out t]) (by blk_simp [idx_out t])

theorem arr11 : (dats m 0 c).arrAt 11 cfg0.N = fun i : S12288x1.Idx => kscale (uRow m c (i 0)) (nwRow m c) := by
  refine (dats m 0 c).arrAt_eq_of_covers 11 _ (by decide +kernel) fun t hf y => ?_
  blk_simp [idx_out t]
  rw [after0_11]
  exact scaleAt_eq m c t (y 0) _ (by blk_simp [idx_out t])

end Cert.KernelIdeal.Gen

end
-- ==== Proof.RefPays.lean ====
/- The reference's stored values at an index, over the extended reals. -/
module

public import proofs.«01_k».proof.Proof.Row
public import proofs.«01_k».proof.Proof.Gen.ReferenceIdeal.Skeleton
public import Idealize.ShloMosaic.Lib.Pointwise

@[expose] public section

set_option maxRecDepth 16384

noncomputable section

namespace Cert.ReferenceIdeal.Gen

open Idealize.ShloMosaic Cert.Quant

theorem log_2_eq : Named.named (F := Ideal) κ "log_2" (φ := .f32) 0x3F317218#32 = ((Real.log 2 : ℝ) : EReal) :=
  IdealRules.named_const.ideal_named_scalar _ _ _ _ rfl

theorem d_eq : Ideal.ofBits .f32 0x45080000#32 = ((2176 : ℝ) : EReal) := by
  simp [Ideal.ofBits, Ideal.ieee, -EReal.coe_mul]; norm_num

theorem norm_apply (U : Vec Ideal S12288x2176 .bf16) (W : Vec Ideal S1x2176 .f32) (r : Fin 12288) (k : Fin 2176) :
    k0_pay1 U W (ix2 r k) = norm (fun j => U (ix2 r j)) (fun j => W (ix2 0 j)) k := by
  pointwise [k0_pay1]
  rw [d_eq, Ideal.div_coe (by norm_num)]; rfl

/-- The largest of a row. -/
theorem rowMax_apply (h : FVec Ideal S12288x2176 .f32) (r : Fin 12288) :
    multiReduction (F := Ideal) .maximumf [1] S12288 h 0xFF800000#32 reduces_S12288x2176_S12288 (.inl rfl) rfl (ix1 r)
      = Finset.univ.fold max (Ideal.ofBits .f32 0xFF800000#32) fun k : Fin 2176 => h (ix2 r k) := by
  pointwise

theorem col_apply (h : FVec Ideal S12288 .f32) (r : Fin 12288) :
    shapeCast S12288x1 h shapeCasts_S12288_S12288x1 (ix2 r 0) = h (ix1 r) := by
  pointwise

theorem mul_apply (h : FVec Ideal S12288x1 .f32) (x : EReal) (r : Fin 12288) :
    mulf h (broadcast S12288x1 x) (ix2 r 0) = h (ix2 r 0) * x := by rfl

theorem exp2_apply (h : FVec Ideal S12288x1 .f32) (r : Fin 12288) :
    Idealize.ShloMosaic.exp2 h (ix2 r 0) = Ideal.exp2 (h (ix2 r 0)) := by rfl

theorem expo_apply (h : FVec Ideal S12288x1 .f32) (r : Fin 12288) :
    select (cmpf .olt h (broadcast S12288x1 (Scalar.ofBits .f32 0x00800000#32))) (broadcast S12288x1 (Scalar.ofBits .f32 0x00000000#32))
      (addf (floor (divf (log h) (broadcast S12288x1 (Named.named κ "log_2" 0x3F317218#32))))
        (broadcast S12288x1 (Scalar.ofBits .f32 0x3F800000#32))) (ix2 r 0)
      = expo (h (ix2 r 0)) := by
  pointwise
  rw [log_2_eq]
  rfl

theorem clip_apply (h : FVec Ideal S12288x2176 .f32) (e : FVec Ideal S12288x1 .f32) (r : Fin 12288) (k : Fin 2176) :
    truncf .fp8e4m3 (minimumf (broadcast S12288x2176 (Scalar.ofBits .f32 0x43E00000#32))
      (maximumf (broadcast S12288x2176 (Scalar.ofBits .f32 0xC3E00000#32))
        (mulf h (broadcastTo S12288x2176 (Idealize.ShloMosaic.exp2 (subf (broadcast S12288x1 (Scalar.ofBits .f32 0x00000000#32)) e))
          broadcasts_S12288x1_S12288x2176)))) bitsLt_fp8e4m3_f32 (ix2 r k)
      = clip (h (ix2 r k) * Ideal.exp2 (0 - e (ix2 r 0))) := by
  pointwise
  rfl

theorem exp_apply (U : Vec Ideal S12288x2176 .bf16) (W : Vec Ideal S1x2176 .f32) (r : Fin 12288) :
    k0_pay2 U W (ix2 r 0) = expo (quot (fun j => U (ix2 r j)) (fun j => W (ix2 0 j))) := by
  have hn : ∀ k, k0_pay1 U W (ix2 r k) = norm (fun j => U (ix2 r j)) (fun j => W (ix2 0 j)) k := norm_apply U W r
  have hb : Ideal.ofBits .f32 0xFF800000#32 = ⊥ := by simp [Ideal.ofBits, Ideal.ieee]
  unfold quot
  simp only [← hn]
  unfold k0_pay2
  generalize k0_pay1 U W = h
  clear hn U W
  refine (expo_apply _ r).trans (congrArg expo ((mul_apply _ _ r).trans (congrArg (· * Ideal.ofBits .f32 0x3B124925#32) ?_)))
  rw [col_apply, rowMax_apply, hb]
  rfl

theorem scale_apply (U : Vec Ideal S12288x2176 .bf16) (W : Vec Ideal S1x2176 .f32) (r : Fin 12288) :
    k0_pay4 U W (ix2 r 0) = scale (fun j => U (ix2 r j)) (fun j => W (ix2 0 j)) := by
  have he := exp_apply U W r
  unfold k0_pay4 scale
  rw [exp2_apply, he]

theorem code_apply (U : Vec Ideal S12288x2176 .bf16) (W : Vec Ideal S1x2176 .f32) (r : Fin 12288) (k : Fin 2176) :
    k0_pay3 U W (ix2 r k) = code (fun j => U (ix2 r j)) (fun j => W (ix2 0 j)) k := by
  unfold k0_pay3 code
  refine (clip_apply _ _ r k).trans ?_
  rw [exp_apply, norm_apply]

theorem z_apply (s : Vec Ideal S12288x1 .f32) (Q : Vec Ideal S12288x2176 .bf16) (w : Vec Ideal S12640x2176 .fp8e4m3)
    (ws : Vec Ideal S1x12640 .f32) (r : Fin 12288) (n : Fin 6144) :
    k0_pay8 s Q w ws (ix2 r n)
      = proj (fun k => Q (ix2 r k)) (s (ix2 r 0)) (fun k => w (ix2 ⟨0 + n.val, by omega⟩ k)) (ws (ix2 0 ⟨0 + n.val, by omega⟩)) := by
  pointwise [k0_pay8, k0_pay6, k0_pay7]
  rfl

theorem x_apply (s : Vec Ideal S12288x1 .f32) (Q : Vec Ideal S12288x2176 .bf16) (w : Vec Ideal S12640x2176 .fp8e4m3)
    (ws : Vec Ideal S1x12640 .f32) (r : Fin 12288) (n : Fin 6144) :
    k0_pay9 s Q w ws (ix2 r n)
      = proj (fun k => Q (ix2 r k)) (s (ix2 r 0)) (fun k => w (ix2 ⟨6144 + n.val, by omega⟩ k)) (ws (ix2 0 ⟨6144 + n.val, by omega⟩)) := by
  pointwise [k0_pay9, k0_pay6, k0_pay7]
  rfl

theorem tail_apply (s : Vec Ideal S12288x1 .f32) (Q : Vec Ideal S12288x2176 .bf16) (w : Vec Ideal S12640x2176 .fp8e4m3)
    (ws : Vec Ideal S1x12640 .f32) (r : Fin 12288) (n : Fin 352) (o : ℕ) (ho : 12288 + n.val = o) (hb : o < 12640) :
    k0_pay10 s Q w ws (ix2 r n)
      = proj (fun k => Q (ix2 r k)) (s (ix2 r 0)) (fun k => w (ix2 ⟨o, hb⟩ k)) (ws (ix2 0 ⟨o, hb⟩)) := by
  subst ho
  pointwise [k0_pay10, k0_pay6, k0_pay7]
  rfl

theorem slice_b (h : FVec Ideal S12288x352 .bf16) (r : Fin 12288) (n : Fin 128) :
    extractStridedSlice S12288x128 ![0, 0] h slices_S12288x352_o0_0_S12288x128 (ix2 r n) = h (ix2 r ⟨n.val, by omega⟩) := by
  pointwise

theorem slice_c (h : FVec Ideal S12288x352 .bf16) (r : Fin 12288) (n : Fin 128) :
    extractStridedSlice S12288x128 ![0, 128] h slices_S12288x352_o0_128_S12288x128 (ix2 r n) = h (ix2 r ⟨128 + n.val, by omega⟩) := by
  pointwise

theorem slice_dt (h : FVec Ideal S12288x352 .bf16) (r : Fin 12288) (n : Fin 96) :
    extractStridedSlice S12288x96 ![0, 256] h slices_S12288x352_o0_256_S12288x96 (ix2 r n) = h (ix2 r ⟨256 + n.val, by omega⟩) := by
  pointwise

theorem b_apply (s : Vec Ideal S12288x1 .f32) (Q : Vec Ideal S12288x2176 .bf16) (w : Vec Ideal S12640x2176 .fp8e4m3)
    (ws : Vec Ideal S1x12640 .f32) (r : Fin 12288) (n : Fin 128) :
    k0_pay11 s Q w ws (ix2 r n)
      = proj (fun k => Q (ix2 r k)) (s (ix2 r 0)) (fun k => w (ix2 ⟨12288 + n.val, by omega⟩ k)) (ws (ix2 0 ⟨12288 + n.val, by omega⟩)) :=
  (slice_b _ r n).trans (tail_apply s Q w ws r _ _ rfl _)

theorem c_apply (s : Vec Ideal S12288x1 .f32) (Q : Vec Ideal S12288x2176 .bf16) (w : Vec Ideal S12640x2176 .fp8e4m3)
    (ws : Vec Ideal S1x12640 .f32) (r : Fin 12288) (n : Fin 128) :
    k0_pay12 s Q w ws (ix2 r n)
      = proj (fun k => Q (ix2 r k)) (s (ix2 r 0)) (fun k => w (ix2 ⟨12416 + n.val, by omega⟩ k)) (ws (ix2 0 ⟨12416 + n.val, by omega⟩)) :=
  (slice_c _ r n).trans (tail_apply s Q w ws r _ _ (by dsimp only; omega) _)

theorem dt_apply (s : Vec Ideal S12288x1 .f32) (Q : Vec Ideal S12288x2176 .bf16) (w : Vec Ideal S12640x2176 .fp8e4m3)
    (ws : Vec Ideal S1x12640 .f32) (r : Fin 12288) (n : Fin 96) :
    k0_pay13 s Q w ws (ix2 r n)
      = proj (fun k => Q (ix2 r k)) (s (ix2 r 0)) (fun k => w (ix2 ⟨12544 + n.val, by omega⟩ k)) (ws (ix2 0 ⟨12544 + n.val, by omega⟩)) :=
  (slice_dt _ r n).trans (tail_apply s Q w ws r _ _ (by dsimp only; omega) _)

theorem wide_code_apply (U : Vec Ideal S12288x2176 .bf16) (W : Vec Ideal S1x2176 .f32) (r : Fin 12288) (k : Fin 2176) :
    k0_pay5 U W (ix2 r k) = code (fun j => U (ix2 r j)) (fun j => W (ix2 0 j)) k :=
  (show k0_pay5 U W (ix2 r k) = k0_pay3 U W (ix2 r k) by unfold k0_pay5; rfl).trans (code_apply U W r k)

end Cert.ReferenceIdeal.Gen

end
-- ==== Proof.RefArrays.lean ====
/- The reference's seven results in closed form. -/
module

public import proofs.«01_k».proof.Proof.RefPays
public import proofs.«01_k».proof.Proof.Results
public import proofs.«01_k».proof.Proof.Gen.ReferenceIdeal.Value
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Cert.Quant

variable (m : (ℓ : Loc nD τ sig) → Buf (Elt Ideal) ℓ) (c : Dev nD)

def uRow (r : Fin 12288) (j : Fin 2176) : EReal := V m c main_v0 (ix2 r j)

def nwRow (j : Fin 2176) : EReal := V m c main_v1 (ix2 0 j)

def wRow (o : Fin 12640) (k : Fin 2176) : EReal := V m c main_arg2 (ix2 o k)

def wsRow (o : Fin 12640) : EReal := V m c main_v2 (ix2 0 o)

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] := by
  decide +kernel

theorem iblk0 (t : Fin cfg0.N) (r : Fin 12288) (j : Fin 2176) : iblk m c 0 t (ix2 r j) = uRow m c r j := by
  unfold uRow
  blk_ext [iblk, idx0 t]

theorem iblk1 (t : Fin cfg0.N) (j : Fin 2176) : iblk m c 1 t (ix2 0 j) = nwRow m c j := by
  unfold nwRow
  blk_ext [iblk, idx0 t]

theorem iblk2 (t : Fin cfg0.N) (o : Fin 12640) (k : Fin 2176) : iblk m c 2 t (ix2 o k) = wRow m c o k := by
  unfold wRow
  blk_ext [iblk, idx0 t]

theorem iblk3 (t : Fin cfg0.N) (o : Fin 12640) : iblk m c 3 t (ix2 0 o) = wsRow m c o := by
  unfold wsRow
  blk_ext [iblk, idx0 t]

theorem z_block (t : Fin cfg0.N) (r : Fin 12288) (n : Fin 6144) (r' : Fin 12288) (n' : Fin 6144) (hr : r'.val = r.val) (hn : n'.val = n.val) :
    k0_pay8 (k0_pay4 (iblk m c 0 t) (iblk m c 1 t)) (k0_pay5 (iblk m c 0 t) (iblk m c 1 t)) (iblk m c 2 t) (iblk m c 3 t) (ix2 r n)
      = projAt 0 (n := 6144) (by decide) (fun r => code (uRow m c r) (nwRow m c)) (fun r => scale (uRow m c r) (nwRow m c))
        (wRow m c) (wsRow m c) r' n' := by
  obtain rfl : r' = r := Fin.ext hr
  obtain rfl : n' = n := Fin.ext hn
  rw [z_apply]
  simp only [wide_code_apply, scale_apply, iblk0, iblk1, iblk2, iblk3]
  rfl

theorem arr4 : (dats m 0 c).arrAt 4 cfg0.N = fun i : S12288x6144.Idx =>
    projAt 0 (n := 6144) (by decide) (fun r => code (uRow m c r) (nwRow m c)) (fun r => scale (uRow m c r) (nwRow m c))
      (wRow m c) (wsRow m c) (i 0) (i 1) := by
  refine (dats m 0 c).arrAt_eq_of_covers 4 _ (by decide +kernel) fun t hf y => ?_
  blk_simp [idx0 t]
  rw [after0_4]
  unfold_out out0_4
  frame_out
  exact (congrArg _ (eq_ix2 (n0 := 12288) (n1 := 6144) y)).trans
    (z_block m c t (y 0) (y 1) _ _ (by blk_simp [idx0 t]) (by blk_simp [idx0 t]))

theorem x_block (t : Fin cfg0.N) (r : Fin 12288) (n : Fin 6144) (r' : Fin 12288) (n' : Fin 6144) (hr : r'.val = r.val) (hn : n'.val = n.val) :
    k0_pay9 (k0_pay4 (iblk m c 0 t) (iblk m c 1 t)) (k0_pay5 (iblk m c 0 t) (iblk m c 1 t)) (iblk m c 2 t) (iblk m c 3 t) (ix2 r n)
      = projAt 6144 (n := 6144) (by decide) (fun r => code (uRow m c r) (nwRow m c)) (fun r => scale (uRow m c r) (nwRow m c))
        (wRow m c) (wsRow m c) r' n' := by
  obtain rfl : r' = r := Fin.ext hr
  obtain rfl : n' = n := Fin.ext hn
  rw [x_apply]
  simp only [wide_code_apply, scale_apply, iblk0, iblk1, iblk2, iblk3]
  rfl

theorem arr5 : (dats m 0 c).arrAt 5 cfg0.N = fun i : S12288x6144.Idx =>
    projAt 6144 (n := 6144) (by decide) (fun r => code (uRow m c r) (nwRow m c)) (fun r => scale (uRow m c r) (nwRow m c))
      (wRow m c) (wsRow m c) (i 0) (i 1) := by
  refine (dats m 0 c).arrAt_eq_of_covers 5 _ (by decide +kernel) fun t hf y => ?_
  blk_simp [idx0 t]
  rw [after0_5]
  unfold_out out0_5
  frame_out
  exact (congrArg _ (eq_ix2 (n0 := 12288) (n1 := 6144) y)).trans
    (x_block m c t (y 0) (y 1) _ _ (by blk_simp [idx0 t]) (by blk_simp [idx0 t]))

theorem b_block (t : Fin cfg0.N) (r : Fin 12288) (n : Fin 128) (r' : Fin 12288) (n' : Fin 128) (hr : r'.val = r.val) (hn : n'.val = n.val) :
    k0_pay11 (k0_pay4 (iblk m c 0 t) (iblk m c 1 t)) (k0_pay5 (iblk m c 0 t) (iblk m c 1 t)) (iblk m c 2 t) (iblk m c 3 t) (ix2 r n)
      = projAt 12288 (n := 128) (by decide) (fun r => code (uRow m c r) (nwRow m c)) (fun r => scale (uRow m c r) (nwRow m c))
        (wRow m c) (wsRow m c) r' n' := by
  obtain rfl : r' = r := Fin.ext hr
  obtain rfl : n' = n := Fin.ext hn
  rw [b_apply]
  simp only [wide_code_apply, scale_apply, iblk0, iblk1, iblk2, iblk3]
  rfl

theorem arr6 : (dats m 0 c).arrAt 6 cfg0.N = fun i : S12288x128.Idx =>
    projAt 12288 (n := 128) (by decide) (fun r => code (uRow m c r) (nwRow m c)) (fun r => scale (uRow m c r) (nwRow m c))
      (wRow m c) (wsRow m c) (i 0) (i 1) := by
  refine (dats m 0 c).arrAt_eq_of_covers 6 _ (by decide +kernel) fun t hf y => ?_
  blk_simp [idx0 t]
  rw [after0_6]
  unfold_out out0_6
  frame_out
  exact (congrArg _ (eq_ix2 (n0 := 12288) (n1 := 128) y)).trans
    (b_block m c t (y 0) (y 1) _ _ (by blk_simp [idx0 t]) (by blk_simp [idx0 t]))

theorem c_block (t : Fin cfg0.N) (r : Fin 12288) (n : Fin 128) (r' : Fin 12288) (n' : Fin 128) (hr : r'.val = r.val) (hn : n'.val = n.val) :
    k0_pay12 (k0_pay4 (iblk m c 0 t) (iblk m c 1 t)) (k0_pay5 (iblk m c 0 t) (iblk m c 1 t)) (iblk m c 2 t) (iblk m c 3 t) (ix2 r n)
      = projAt 12416 (n := 128) (by decide) (fun r => code (uRow m c r) (nwRow m c)) (fun r => scale (uRow m c r) (nwRow m c))
        (wRow m c) (wsRow m c) r' n' := by
  obtain rfl : r' = r := Fin.ext hr
  obtain rfl : n' = n := Fin.ext hn
  rw [c_apply]
  simp only [wide_code_apply, scale_apply, iblk0, iblk1, iblk2, iblk3]
  rfl

theorem arr7 : (dats m 0 c).arrAt 7 cfg0.N = fun i : S12288x128.Idx =>
    projAt 12416 (n := 128) (by decide) (fun r => code (uRow m c r) (nwRow m c)) (fun r => scale (uRow m c r) (nwRow m c))
      (wRow m c) (wsRow m c) (i 0) (i 1) := by
  refine (dats m 0 c).arrAt_eq_of_covers 7 _ (by decide +kernel) fun t hf y => ?_
  blk_simp [idx0 t]
  rw [after0_7]
  unfold_out out0_7
  frame_out
  exact (congrArg _ (eq_ix2 (n0 := 12288) (n1 := 128) y)).trans
    (c_block m c t (y 0) (y 1) _ _ (by blk_simp [idx0 t]) (by blk_simp [idx0 t]))

theorem dt_block (t : Fin cfg0.N) (r : Fin 12288) (n : Fin 96) (r' : Fin 12288) (n' : Fin 96) (hr : r'.val = r.val) (hn : n'.val = n.val) :
    k0_pay13 (k0_pay4 (iblk m c 0 t) (iblk m c 1 t)) (k0_pay5 (iblk m c 0 t) (iblk m c 1 t)) (iblk m c 2 t) (iblk m c 3 t) (ix2 r n)
      = projAt 12544 (n := 96) (by decide) (fun r => code (uRow m c r) (nwRow m c)) (fun r => scale (uRow m c r) (nwRow m c))
        (wRow m c) (wsRow m c) r' n' := by
  obtain rfl : r' = r := Fin.ext hr
  obtain rfl : n' = n := Fin.ext hn
  rw [dt_apply]
  simp only [wide_code_apply, scale_apply, iblk0, iblk1, iblk2, iblk3]
  rfl

theorem arr8 : (dats m 0 c).arrAt 8 cfg0.N = fun i : S12288x96.Idx =>
    projAt 12544 (n := 96) (by decide) (fun r => code (uRow m c r) (nwRow m c)) (fun r => scale (uRow m c r) (nwRow m c))
      (wRow m c) (wsRow m c) (i 0) (i 1) := by
  refine (dats m 0 c).arrAt_eq_of_covers 8 _ (by decide +kernel) fun t hf y => ?_
  blk_simp [idx0 t]
  rw [after0_8]
  unfold_out out0_8
  frame_out
  exact (congrArg _ (eq_ix2 (n0 := 12288) (n1 := 96) y)).trans
    (dt_block m c t (y 0) (y 1) _ _ (by blk_simp [idx0 t]) (by blk_simp [idx0 t]))

theorem code_block (t : Fin cfg0.N) (r : Fin 12288) (k : Fin 2176) (r' : Fin 12288) (k' : Fin 2176) (hr : r'.val = r.val) (hk : k'.val = k.val) :
    k0_pay3 (iblk m c 0 t) (iblk m c 1 t) (ix2 r k) = code (uRow m c r') (nwRow m c) k' := by
  obtain rfl : r' = r := Fin.ext hr
  obtain rfl : k' = k := Fin.ext hk
  rw [code_apply]
  simp only [iblk0, iblk1]

theorem scale_block (t : Fin cfg0.N) (r : Fin 12288) (r' : Fin 12288) (hr : r'.val = r.val) :
    k0_pay4 (iblk m c 0 t) (iblk m c 1 t) (ix2 r 0) = scale (uRow m c r') (nwRow m c) := by
  obtain rfl : r' = r := Fin.ext hr
  rw [scale_apply]
  simp only [iblk0, iblk1]

theorem arr9 : (dats m 0 c).arrAt 9 cfg0.N = fun i : S12288x2176.Idx => code (uRow m c (i 0)) (nwRow m c) (i 1) := by
  refine (dats m 0 c).arrAt_eq_of_covers 9 _ (by decide +kernel) fun t hf y => ?_
  blk_simp [idx0 t]
  rw [after0_9]
  unfold_out out0_9
  frame_out
  exact (congrArg _ (eq_ix2 (n0 := 12288) (n1 := 2176) y)).trans
    (code_block m c t (y 0) (y 1) _ _ (by blk_simp [idx0 t]) (by blk_simp [idx0 t]))

theorem arr10 : (dats m 0 c).arrAt 10 cfg0.N = fun i : S12288x1.Idx => scale (uRow m c (i 0)) (nwRow m c) := by
  refine (dats m 0 c).arrAt_eq_of_covers 10 _ (by decide +kernel) fun t hf y => ?_
  blk_simp [idx0 t]
  rw [after0_10]
  unfold_out out0_10
  frame_out
  exact (congrArg _ ((eq_ix2 (n0 := 12288) (n1 := 1) y).trans (congrArg (ix2 _) (Subsingleton.elim _ 0)))).trans
    (scale_block m c t (y 0) _ (by blk_simp [idx0 t]))

end Cert.ReferenceIdeal.Gen

end
-- ==== Proof.Entry.lean ====
/- What both programs read of their arguments, and the kernel's run with its results named. -/
module

public import proofs.«01_k».proof.Proof.Arrays
public import proofs.«01_k».proof.Proof.RefArrays
public import Idealize.ShloMosaic.Lib.Claim
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.SL.Sem Cert.Quant

variable (m : (ℓ : Loc nD τ sig) → Buf (Elt Ideal) ℓ) (c : Dev nD) (ρ : Dev nD → PrngReg)

theorem uRow_eq (r : Fin 12288) (j : Fin 2176) :
    uRow m c r j = shapeCast S12288x2176 (m ((c.tc : Thread nD τ).loc main_arg0)) shapeCasts_S8x1536x2176_S12288x2176 (ix2 r j) := by
  unfold uRow
  entry_read
  rfl

theorem nwRow_eq (j : Fin 2176) : nwRow m c j = m ((c.tc : Thread nD τ).loc main_arg1) (ix1 j) := by
  unfold nwRow
  entry_read
  pointwise

theorem wRow_eq (o : Fin 12640) (k : Fin 2176) : wRow m c o k = m ((c.tc : Thread nD τ).loc main_arg2) (ix2 o k) := by
  unfold wRow
  rw [V_main_arg2]

theorem wsRow_eq (o : Fin 12640) : wsRow m c o = m ((c.tc : Thread nD τ).loc main_arg3) (ix1 o) := by
  unfold wsRow
  entry_read
  pointwise

/-- The run with each result at its array, the arguments unchanged. -/
theorem run_results : θ_run defs (onTc (τ := τ) (main (F := Ideal))) ⟨m, fun _ => 0, ρ⟩ fun r => ∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_v3_2) = (dats m 0 c).arrAt 7 cfg0.N
      ∧ r.2.mem ((c.tc : Thread nD τ).loc main_v3_3) = (dats m 0 c).arrAt 8 cfg0.N
      ∧ r.2.mem ((c.tc : Thread nD τ).loc main_v3_4) = (dats m 0 c).arrAt 9 cfg0.N
      ∧ r.2.mem ((c.tc : Thread nD τ).loc main_v3_5) = (dats m 0 c).arrAt 10 cfg0.N
      ∧ r.2.mem ((c.tc : Thread nD τ).loc main_v3_6) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 5, (h c).1 6, (h c).1 7, (h c).1 8, (h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩)
    (run_main m ρ)

end Cert.KernelIdeal.Gen

namespace Cert.ReferenceIdeal.Gen

open Idealize.ShloMosaic Idealize.ShloMosaic.TcCoe Idealize.ShloMosaic.Tactic Cert.Quant

variable (m : (ℓ : Loc nD τ sig) → Buf (Elt Ideal) ℓ) (c : Dev nD)

theorem uRow_eq (r : Fin 12288) (j : Fin 2176) :
    uRow m c r j = shapeCast S12288x2176 (m ((c.tc : Thread nD τ).loc main_arg0)) shapeCasts_S8x1536x2176_S12288x2176 (ix2 r j) := by
  unfold uRow
  entry_read
  rfl

theorem nwRow_eq (j : Fin 2176) : nwRow m c j = m ((c.tc : Thread nD τ).loc main_arg1) (ix1 j) := by
  unfold nwRow
  entry_read
  pointwise

theorem wRow_eq (o : Fin 12640) (k : Fin 2176) : wRow m c o k = m ((c.tc : Thread nD τ).loc main_arg2) (ix2 o k) := by
  unfold wRow
  rw [V_main_arg2]

theorem wsRow_eq (o : Fin 12640) : wsRow m c o = m ((c.tc : Thread nD τ).loc main_arg3) (ix1 o) := by
  unfold wsRow
  entry_read
  pointwise

end Cert.ReferenceIdeal.Gen

end
-- ==== Proof.Bound.lean ====
/- With finite norm weights a row's quotient lies where the two exponents agree, so the kernel's codes and scale of the row are
   the reference's. -/
module

public import proofs.«01_k».proof.Proof.Row

@[expose] public section

noncomputable section

namespace Cert.Quant

open Idealize.ShloMosaic

/-- A norm weight is a finite float. -/
def Finite (x : EReal) : Prop := max x (-x) ≤ Ideal.ofBits .f32 0x7F7FFFFF#32

theorem eps_eq : Ideal.ofBits .f32 0x3727C5AC#32 = (((10995116 : ℝ) * (2 : ℝ) ^ (-40 : Int) : ℝ) : EReal) := by
  simp [Ideal.ofBits, Ideal.ieee]

theorem inv448_eq : Ideal.ofBits .f32 0x3B124925#32 = (((9586981 : ℝ) * (2 : ℝ) ^ (-32 : Int) : ℝ) : EReal) := by
  simp [Ideal.ofBits, Ideal.ieee]

theorem greatest_eq : Ideal.ofBits .f32 0x7F7FFFFF#32 = (((16777215 : ℝ) * (2 : ℝ) ^ (104 : Int) : ℝ) : EReal) := by
  simp [Ideal.ofBits, Ideal.ieee]

theorem zero_le_abs (x : EReal) : 0 ≤ max x (-x) := by
  rcases le_total 0 x with h | h
  · exact le_max_of_le_left h
  · exact le_max_of_le_right (EReal.neg_nonneg.mpr h)

theorem zero_le_sq (x : EReal) : 0 ≤ x * x := by
  induction x with
  | bot => simp
  | top => simp
  | coe r => exact_mod_cast mul_self_nonneg r

theorem coe_sum (f : Fin 2176 → ℝ) (s : Finset (Fin 2176)) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An infinite entry makes the mean square infinite, and the normalised row zero. -/
theorem norm_of_infinite (u nw : Fin 2176 → EReal) (j : Fin 2176) (hj : u j = ⊥ ∨ u j = ⊤) (k : Fin 2176) : norm u nw k = 0 := by
  have h1 : u j * u j = ⊤ := by rcases hj with h | h <;> rw [h] <;> simp
  have h2 : (∑ k, u k * u k) = ⊤ :=
    top_le_iff.mp (h1 ▸ Finset.single_le_sum (f := fun k => u k * u k) (fun k _ => zero_le_sq (u k)) (Finset.mem_univ j))
  have h3 : meanSq u = ⊤ := by
    unfold meanSq; rw [h2]; exact EReal.top_mul_coe_of_pos (by norm_num)
  unfold norm
  rw [h3, eps_eq, EReal.top_add_coe, Ideal.rsqrt_top, mul_zero, zero_mul]

/-- The normalised row is bounded. -/
theorem norm_le (u nw : Fin 2176 → EReal) (hw : ∀ k, Finite (nw k)) (k : Fin 2176) :
    max (norm u nw k) (-norm u nw k) ≤ ((47 * (2 : ℝ) ^ 128 : ℝ) : EReal) := by
  by_cases hj : ∃ j, u j = ⊥ ∨ u j = ⊤
  · obtain ⟨j, hj⟩ := hj
    rw [norm_of_infinite u nw j hj, neg_zero, max_self]
    exact_mod_cast (by positivity : (0 : ℝ) ≤ 47 * (2 : ℝ) ^ 128)
  · have hu : ∀ j, u j = ((u j).toReal : EReal) := fun j =>
      (EReal.coe_toReal (fun h => hj ⟨j, Or.inr h⟩) (fun h => hj ⟨j, Or.inl h⟩)).symm
    have hn := hw k
    unfold Finite at hn
    rw [greatest_eq, max_le_iff] at hn
    have hnt : nw k ≠ ⊤ := fun h => by rw [h] at hn; exact absurd hn.1 (not_le.mpr (EReal.coe_lt_top _))
    have hnb : nw k ≠ ⊥ := fun h => by rw [h, EReal.neg_bot] at hn; exact absurd hn.2 (not_le.mpr (EReal.coe_lt_top _))
    have hnk : nw k = ((nw k).toReal : EReal) := (EReal.coe_toReal hnt hnb).symm
    generalize hv : (fun j => (u j).toReal) = v at hu
    have hu' : ∀ j, u j = (v j : EReal) := fun j => by rw [← hv]; exact hu j
    generalize (nw k).toReal = n at hnk
    rw [hnk] at hn
    have hn1 : n ≤ (2 : ℝ) ^ 128 := le_trans (by exact_mod_cast hn.1) (by norm_num)
    have hn2 : -n ≤ (2 : ℝ) ^ 128 := le_trans (by exact_mod_cast hn.2) (by norm_num)
    have hms : meanSq u = (((∑ j, v j * v j) * (1 / 2176) : ℝ) : EReal) := by
      unfold meanSq
      rw [EReal.coe_mul, coe_sum]
      simp only [hu', EReal.coe_mul]
    set S : ℝ := ∑ j, v j * v j with hS
    have hS0 : 0 ≤ S := Finset.sum_nonneg fun j _ => mul_self_nonneg (v j)
    have hk : v k * v k ≤ S := Finset.single_le_sum (f := fun j => v j * v j) (fun j _ => mul_self_nonneg (v j)) (Finset.mem_univ k)
    set a : ℝ := S * (1 / 2176) + 10995116 * (2 : ℝ) ^ (-40 : Int) with ha
    have hap : 0 < a := by
      have : (0 : ℝ) < 10995116 * (2 : ℝ) ^ (-40 : Int) := by positivity
      have : (0 : ℝ) ≤ S * (1 / 2176) := by positivity
      linarith
    have hr : Ideal.rsqrt (meanSq u + Ideal.ofBits .f32 0x3727C5AC#32) = (((Real.sqrt a)⁻¹ : ℝ) : EReal) := by
      rw [hms, eps_eq, ← EReal.coe_add, Ideal.rsqrt_coe, if_neg (not_lt.mpr hap.le), if_neg hap.ne']
    have hx : |v k * (Real.sqrt a)⁻¹| ≤ 47 := by
      rw [← div_eq_mul_inv, abs_div, abs_of_pos (Real.sqrt_pos.mpr hap), div_le_iff₀ (Real.sqrt_pos.mpr hap)]
      refine abs_le_of_sq_le_sq ?_ (by positivity)
      rw [mul_pow, Real.sq_sqrt hap.le]
      have : (0 : ℝ) < 10995116 * (2 : ℝ) ^ (-40 : Int) := by positivity
      nlinarith
    have hb : |v k * (Real.sqrt a)⁻¹ * n| ≤ 47 * (2 : ℝ) ^ 128 := by
      rw [abs_mul]
      exact mul_le_mul hx (abs_le.mpr ⟨by linarith, hn1⟩) (abs_nonneg _) (by norm_num)
    have hnorm : norm u nw k = ((v k * (Real.sqrt a)⁻¹ * n : ℝ) : EReal) := by
      unfold norm
      rw [hr, hu', hnk, ← EReal.coe_mul, ← EReal.coe_mul]
    rw [hnorm, ← EReal.coe_neg]
    exact max_le (EReal.coe_le_coe_iff.mpr ((le_abs_self _).trans hb)) (EReal.coe_le_coe_iff.mpr ((neg_le_abs _).trans hb))

/-- The quotient is not negative, -/
theorem quot_nonneg (u nw : Fin 2176 → EReal) : 0 ≤ quot u nw := by
  unfold quot
  refine mul_nonneg ?_ ?_
  · exact (Finset.le_fold_max _).mpr (Or.inr ⟨0, Finset.mem_univ _, zero_le_abs _⟩)
  · rw [inv448_eq]
    exact_mod_cast (by positivity : (0 : ℝ) ≤ 9586981 * (2 : ℝ) ^ (-32 : Int))

/-- and is below where the word of the scale would leave the exponent field. -/
theorem quot_lt (u nw : Fin 2176 → EReal) (hw : ∀ k, Finite (nw k)) : quot u nw < (((2 : ℝ) ^ (126 : Int) : ℝ) : EReal) := by
  have h1 : (Finset.univ : Finset (Fin 2176)).fold max ⊥ (fun k => max (norm u nw k) (-norm u nw k)) ≤ ((47 * (2 : ℝ) ^ 128 : ℝ) : EReal) :=
    (Finset.fold_max_le _).mpr ⟨bot_le, fun k _ => norm_le u nw hw k⟩
  have hc : (0 : EReal) ≤ (((9586981 : ℝ) * (2 : ℝ) ^ (-32 : Int) : ℝ) : EReal) := by
    exact_mod_cast (by positivity : (0 : ℝ) ≤ 9586981 * (2 : ℝ) ^ (-32 : Int))
  unfold quot
  rw [inv448_eq]
  refine lt_of_le_of_lt (mul_le_mul_of_nonneg_right h1 hc) ?_
  rw [← EReal.coe_mul]
  exact EReal.coe_lt_coe_iff.mpr (by norm_num)

/-- The kernel's codes of a row are the reference's. -/
theorem kcode_eq (u nw : Fin 2176 → EReal) (hw : ∀ k, Finite (nw k)) (k : Fin 2176) : kcode u nw k = code u nw k := by
  unfold kcode code
  rw [inv_eq _ (quot_nonneg u nw) (quot_lt u nw hw)]

/-- The kernel's scale of a row is the reference's. -/
theorem kscale_eq (u nw : Fin 2176 → EReal) (hw : ∀ k, Finite (nw k)) : kscale u nw = scale u nw :=
  scale_eq _ (quot_nonneg u nw) (quot_lt u nw hw)

end Cert.Quant

end
-- ==== Proof.Equal.lean ====
/- The kernel's results and the reference's are the same, where the norm's weights are finite. -/
module

public import proofs.«01_k».proof.Defs
public import proofs.«01_k».proof.Proof.Entry
public import proofs.«01_k».proof.Proof.Bound
public import proofs.«01_k».proof.Proof.Gen.Pre_finite_weights

@[expose] public section

set_option maxRecDepth 16384

noncomputable section

namespace Cert.Equal

open Idealize.ShloMosaic Idealize.ShloMosaic.TcCoe Idealize.SL.Sem Cert.Quant

/-- The precondition says of every weight of the norm that it is finite. -/
theorem finite_of_pre (m : (ℓ : Loc KernelIdeal.nD KernelIdeal.τ KernelIdeal.sig) → Buf (Elt Ideal) ℓ) (h : Pre_KernelIdeal_finite_weights m)
    (c : Dev KernelIdeal.nD) (k : Fin 2176) : Finite (KernelIdeal.Gen.nwRow m c k) := by
  rw [KernelIdeal.Gen.nwRow_eq]
  have h1 := congrFun (h c) (ix1 k)
  generalize m ((c.tc : Thread KernelIdeal.nD KernelIdeal.τ).loc KernelIdeal.main_arg1) = w at h1 ⊢
  unfold Pre_finite_weights.fn at h1
  pointwise at h1
  have h2 : ∀ d : Bool, BitVec.ofBool d = 1#1 → d = true := by decide
  have h3 := of_decide_eq_true (h2 _ h1)
  exact h3

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The two programs are launched on the same arguments. -/
def Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

variable {m m' c}

theorem uRow_same (h : Same m m' c) : ReferenceIdeal.Gen.uRow m' c = KernelIdeal.Gen.uRow m c := by
  funext r j
  rw [ReferenceIdeal.Gen.uRow_eq, KernelIdeal.Gen.uRow_eq, h.1]

theorem nwRow_same (h : Same m m' c) : ReferenceIdeal.Gen.nwRow m' c = KernelIdeal.Gen.nwRow m c := by
  funext j
  rw [ReferenceIdeal.Gen.nwRow_eq, KernelIdeal.Gen.nwRow_eq, h.2.1]

theorem wRow_same (h : Same m m' c) : ReferenceIdeal.Gen.wRow m' c = KernelIdeal.Gen.wRow m c := by
  funext o k
  rw [ReferenceIdeal.Gen.wRow_eq, KernelIdeal.Gen.wRow_eq, h.2.2.1]

theorem wsRow_same (h : Same m m' c) : ReferenceIdeal.Gen.wsRow m' c = KernelIdeal.Gen.wsRow m c := by
  funext o
  rw [ReferenceIdeal.Gen.wsRow_eq, KernelIdeal.Gen.wsRow_eq, h.2.2.2]

variable (hw : ∀ k, Finite (KernelIdeal.Gen.nwRow m c k)) (h : Same m m' c)

include hw h

theorem codes_same : (fun r => code (ReferenceIdeal.Gen.uRow m' c r) (ReferenceIdeal.Gen.nwRow m' c))
    = fun r => kcode (KernelIdeal.Gen.uRow m c r) (KernelIdeal.Gen.nwRow m c) := by
  rw [uRow_same h, nwRow_same h]
  funext r k
  exact (kcode_eq _ _ hw k).symm

theorem scales_same : (fun r => scale (ReferenceIdeal.Gen.uRow m' c r) (ReferenceIdeal.Gen.nwRow m' c))
    = fun r => kscale (KernelIdeal.Gen.uRow m c r) (KernelIdeal.Gen.nwRow m c) := by
  rw [uRow_same h, nwRow_same h]
  funext r
  exact (kscale_eq _ _ hw).symm

theorem same0 : (ReferenceIdeal.Gen.dats m' 0 c).arrAt 4 ReferenceIdeal.cfg0.N = (KernelIdeal.Gen.dats m 0 c).arrAt 5 KernelIdeal.cfg0.N := by
  rw [ReferenceIdeal.Gen.arr4, KernelIdeal.Gen.arr5, codes_same hw h, scales_same hw h, wRow_same h, wsRow_same h]

theorem same1 : (ReferenceIdeal.Gen.dats m' 0 c).arrAt 5 ReferenceIdeal.cfg0.N = (KernelIdeal.Gen.dats m 0 c).arrAt 6 KernelIdeal.cfg0.N := by
  rw [ReferenceIdeal.Gen.arr5, KernelIdeal.Gen.arr6, codes_same hw h, scales_same hw h, wRow_same h, wsRow_same h]

theorem same2 : (ReferenceIdeal.Gen.dats m' 0 c).arrAt 6 ReferenceIdeal.cfg0.N = (KernelIdeal.Gen.dats m 0 c).arrAt 7 KernelIdeal.cfg0.N := by
  rw [ReferenceIdeal.Gen.arr6, KernelIdeal.Gen.arr7, codes_same hw h, scales_same hw h, wRow_same h, wsRow_same h]

theorem same3 : (ReferenceIdeal.Gen.dats m' 0 c).arrAt 7 ReferenceIdeal.cfg0.N = (KernelIdeal.Gen.dats m 0 c).arrAt 8 KernelIdeal.cfg0.N := by
  rw [ReferenceIdeal.Gen.arr7, KernelIdeal.Gen.arr8, codes_same hw h, scales_same hw h, wRow_same h, wsRow_same h]

theorem same4 : (ReferenceIdeal.Gen.dats m' 0 c).arrAt 8 ReferenceIdeal.cfg0.N = (KernelIdeal.Gen.dats m 0 c).arrAt 9 KernelIdeal.cfg0.N := by
  rw [ReferenceIdeal.Gen.arr8, KernelIdeal.Gen.arr9, codes_same hw h, scales_same hw h, wRow_same h, wsRow_same h]

theorem same5 : (ReferenceIdeal.Gen.dats m' 0 c).arrAt 9 ReferenceIdeal.cfg0.N = (KernelIdeal.Gen.dats m 0 c).arrAt 10 KernelIdeal.cfg0.N := by
  rw [ReferenceIdeal.Gen.arr9, KernelIdeal.Gen.arr10]
  funext i
  exact congrFun (congrFun (codes_same hw h) (i 0)) (i 1)

theorem same6 : (ReferenceIdeal.Gen.dats m' 0 c).arrAt 10 ReferenceIdeal.cfg0.N = (KernelIdeal.Gen.dats m 0 c).arrAt 11 KernelIdeal.cfg0.N := by
  rw [ReferenceIdeal.Gen.arr10, KernelIdeal.Gen.arr11]
  funext i
  exact congrFun (scales_same hw h) (i 0)

omit hw h

/-- The kernel and the reference agree on all seven results. -/
theorem algebraic : algebraic_KernelIdeal_ReferenceIdeal_pre_finite_weights := by
  intro m g m' g' hp hs
  have hw := finite_of_pre m hp
  refine ⟨fun c => (KernelIdeal.Gen.dats m 0 c).arrAt 5 KernelIdeal.cfg0.N, fun c => (KernelIdeal.Gen.dats m 0 c).arrAt 6 KernelIdeal.cfg0.N,
    fun c => (KernelIdeal.Gen.dats m 0 c).arrAt 7 KernelIdeal.cfg0.N, fun c => (KernelIdeal.Gen.dats m 0 c).arrAt 8 KernelIdeal.cfg0.N,
    fun c => (KernelIdeal.Gen.dats m 0 c).arrAt 9 KernelIdeal.cfg0.N, fun c => (KernelIdeal.Gen.dats m 0 c).arrAt 10 KernelIdeal.cfg0.N,
    fun c => (KernelIdeal.Gen.dats m 0 c).arrAt 11 KernelIdeal.cfg0.N, KernelIdeal.Gen.run_results m g, ?_⟩
  refine (θ_run ReferenceIdeal.defs _ _).mono (fun r h c => ?_) (ReferenceIdeal.Value.run_blocks m' g')
  obtain ⟨h0, h1, h2, h3, h4, h5, h6, hk⟩ := h c
  have hc : Same m m' c := hs c
  exact ⟨h0.trans (same0 (hw c) hc), h1.trans (same1 (hw c) hc), h2.trans (same2 (hw c) hc), h3.trans (same3 (hw c) hc),
    h4.trans (same4 (hw c) hc), h5.trans (same5 (hw c) hc), h6.trans (same6 (hw c) hc), hk⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite_weights
public import proofs.«01_k».proof.Proof.WordsFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_weights.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "inv_d" .f32 0x39F0F0F1#32 _ rfl,
    Cert.Equal.algebraic⟩

end Cert.Proof

end
